-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v14)) (v1 : (c : Dev Cert.KernelIdeal.nD) → Buf (Elt Ideal) ((c.tc : Thread Cert.KernelIdeal.nD Cert.KernelIdeal.τ).loc Cert.KernelIdeal.main_v16)) (v2 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_v16) = v1 c
          ∧ r.2.mem ((c.tc : Thread Cert.KernelIdeal.nD Cert.KernelIdeal.τ).loc Cert.KernelIdeal.main_v11) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_v25) = v1 c
          ∧ r.2.mem ((c.tc : Thread Cert.ReferenceIdeal.nD Cert.ReferenceIdeal.τ).loc Cert.ReferenceIdeal.main_v14) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ preserves_Kernel_KernelIdeal
    ∧ algebraic_KernelIdeal_ReferenceIdeal_pre_finite_inputs (hKernelIdeal := hKernelIdeal) (hReferenceIdeal := hReferenceIdeal) (hPre_finite_inputs := hPre_finite_inputs)
-- ==== Pre_finite_inputs.lean ====
abbrev S16384x64 : Shape := ⟨2, ![16384, 64]⟩
abbrev S8192x64 : Shape := ⟨2, ![8192, 64]⟩
abbrev S_ : Shape := ⟨0, ![]⟩

class Facts : Prop where
  bcast_S_S16384x64 : S_.BroadcastsInDim S16384x64 (![] : Fin 0 → Fin S16384x64.rank)
  reducesTo_S16384x64_S_d0_1 : S16384x64.ReducesTo [0, 1] S_
  h_S_ : 0 < S_.numel
  bcast_S_S8192x64 : S_.BroadcastsInDim S8192x64 (![] : Fin 0 → Fin S8192x64.rank)
  reducesTo_S8192x64_S_d0_1 : S8192x64.ReducesTo [0, 1] S_

variable [Facts]

def fn {F : FTy → Type} [FloatOps F] (main_arg0 : FVec F S16384x64 .f32) (main_arg1 : FVec F S16384x64 .f32) (main_arg2 : FVec F S8192x64 .f32) : IVec S_ 1 :=
  let main_v0 : FVec F S16384x64 .f32 := Host.absf main_arg0
  let main_cst : FVec F S_ .f32 := constant S_ .f32 0x7F800000#32
  let main_v1 : FVec F S16384x64 .f32 := broadcastInDim S16384x64 ![] bcast_S_S16384x64 main_cst
  let main_v2 : IVec S16384x64 1 := cmpf .olt main_v0 main_v1
  let main_c : IVec S_ 1 := constantI S_ 1 1#1
  let main_v3 : IVec S_ 1 := (fun x v => Host.reduce IntOp.andi x v reducesTo_S16384x64_S_d0_1 h_S_) main_v2 main_c
  let main_v4 : FVec F S8192x64 .f32 := Host.absf main_arg2
  let main_cst_0 : FVec F S_ .f32 := constant S_ .f32 0x7F800000#32
  let main_v5 : FVec F S8192x64 .f32 := broadcastInDim S8192x64 ![] bcast_S_S8192x64 main_cst_0
  let main_v6 : IVec S8192x64 1 := cmpf .olt main_v4 main_v5
  let main_c_1 : IVec S_ 1 := constantI S_ 1 1#1
  let main_v7 : IVec S_ 1 := (fun x v => Host.reduce IntOp.andi x v reducesTo_S8192x64_S_d0_1 h_S_) main_v6 main_c_1
  let main_v8 : IVec S_ 1 := andi main_v3 main_v7
  main_v8
-- ==== Kernel.lean ====
abbrev S16384x64 : Shape := ⟨2, ![16384, 64]⟩
abbrev S8192x64 : Shape := ⟨2, ![8192, 64]⟩
abbrev S_ : Shape := ⟨0, ![]⟩
abbrev S16384 : Shape := ⟨1, ![16384]⟩
abbrev S4x1x4096 : Shape := ⟨3, ![4, 1, 4096]⟩
abbrev S8192 : Shape := ⟨1, ![8192]⟩
abbrev S8192x1 : Shape := ⟨2, ![8192, 1]⟩
abbrev S1x1 : Shape := ⟨2, ![1, 1]⟩
abbrev S1x1x4096 : Shape := ⟨3, ![1, 1, 4096]⟩
abbrev S4096x64 : Shape := ⟨2, ![4096, 64]⟩
abbrev S1x4096 : Shape := ⟨2, ![1, 4096]⟩
abbrev S8x4096 : Shape := ⟨2, ![8, 4096]⟩
abbrev S1024x64 : Shape := ⟨2, ![1024, 64]⟩
abbrev S1024x1 : Shape := ⟨2, ![1024, 1]⟩
abbrev S1024x4096 : Shape := ⟨2, ![1024, 4096]⟩
abbrev S8x1 : Shape := ⟨2, ![8, 1]⟩
abbrev S4x4096 : Shape := ⟨2, ![4, 4096]⟩
abbrev S2x4096 : Shape := ⟨2, ![2, 4096]⟩
abbrev S1 : Shape := ⟨1, ![1]⟩
abbrev S1x1x1 : Shape := ⟨3, ![1, 1, 1]⟩
abbrev S8192x128 : Shape := ⟨2, ![8192, 128]⟩
abbrev S16384x128 : Shape := ⟨2, ![16384, 128]⟩
abbrev S512 : Shape := ⟨1, ![512]⟩
abbrev S512x128 : Shape := ⟨2, ![512, 128]⟩

abbrev nBuf : Table → Nat
  | .hbm => 27
  | .local .tc .vmem => 9
  | .local .scVector .vmem => 2
  | _ => 0

abbrev bufTy : (tb : Table) → Fin (nBuf tb) → BufTy
  | .hbm, ⟨0, _⟩ => ⟨S16384x64, .f32⟩
  | .hbm, ⟨1, _⟩ => ⟨S16384x64, .f32⟩
  | .hbm, ⟨2, _⟩ => ⟨S8192x64, .f32⟩
  | .hbm, ⟨3, _⟩ => ⟨S16384x64, .f32⟩
  | .hbm, ⟨4, _⟩ => ⟨S_, .f32⟩
  | .hbm, ⟨5, _⟩ => ⟨S16384, .f32⟩
  | .hbm, ⟨6, _⟩ => ⟨S4x1x4096, .f32⟩
  | .hbm, ⟨7, _⟩ => ⟨S8192x64, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S16384x64, .bf16⟩
  | .hbm, ⟨12, _⟩ => ⟨S_, .f32⟩
  | .hbm, ⟨13, _⟩ => ⟨S8192x64, .f32⟩
  | .hbm, ⟨14, _⟩ => ⟨S8192x64, .f32⟩
  | .hbm, ⟨15, _⟩ => ⟨S8192x64, .bf16⟩
  | .hbm, ⟨16, _⟩ => ⟨S4x1x4096, .i32⟩
  | .hbm, ⟨17, _⟩ => ⟨S1x1, .f32⟩
  | .hbm, ⟨18, _⟩ => ⟨S16384, .i32⟩
  | .hbm, ⟨19, _⟩ => ⟨S_, .i32⟩
  | .hbm, ⟨20, _⟩ => ⟨S_, .f32⟩
  | .hbm, ⟨21, _⟩ => ⟨S8192x128, .f32⟩
  | .hbm, ⟨22, _⟩ => ⟨S16384x128, .f32⟩
  | .hbm, ⟨23, _⟩ => ⟨S16384x64, .f32⟩
  | .hbm, ⟨24, _⟩ => ⟨S_, .f32⟩
  | .hbm, ⟨25, _⟩ => ⟨S_, .f32⟩
  | .hbm, ⟨26, _⟩ => ⟨S_, .f32⟩
  | .local .tc .vmem, ⟨0, _⟩ => ⟨S1x1x4096, .f32⟩
  | .local .tc .vmem, ⟨1, _⟩ => ⟨S1x1x4096, .f32⟩
  | .local .tc .vmem, ⟨2, _⟩ => ⟨S8192x1, .f32⟩
  | .local .tc .vmem, ⟨3, _⟩ => ⟨S4096x64, .bf16⟩
  | .local .tc .vmem, ⟨4, _⟩ => ⟨S4096x64, .bf16⟩
  | .local .tc .vmem, ⟨5, _⟩ => ⟨S8192x64, .bf16⟩
  | .local .tc .vmem, ⟨6, _⟩ => ⟨S1x1x4096, .i32⟩
  | .local .tc .vmem, ⟨7, _⟩ => ⟨S1x1x4096, .i32⟩
  | .local .tc .vmem, ⟨8, _⟩ => ⟨S1x1, .f32⟩
  | .local .scVector .vmem, ⟨0, _⟩ => ⟨S512, .i32⟩
  | .local .scVector .vmem, ⟨1, _⟩ => ⟨S512x128, .f32⟩
  | _, _ => ⟨S16384x64, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => false
  | ⟨10, _⟩ => false
  | ⟨11, _⟩ => false
  | _ => false

abbrev sig : RefSig :=
  ofTables nBuf rfl bufTy 4 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10_0 : Ref sig .tc := ⟨.hbm, 16, rfl⟩
abbrev main_v10_1 : Ref sig .tc := ⟨.hbm, 17, rfl⟩
abbrev main_v11 : Ref sig .tc := ⟨.hbm, 18, rfl⟩
abbrev main_c : Ref sig .tc := ⟨.hbm, 19, rfl⟩
abbrev main_call0_v0 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v12_scv : Ref sig .scVector := ⟨.hbm, 21, rfl⟩
abbrev main_v11_scv : Ref sig .scVector := ⟨.hbm, 18, rfl⟩
abbrev main_v13_scv : Ref sig .scVector := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc1_scratch0 : Ref sig .scVector := ⟨.vmem, 0, rfl⟩
abbrev cc1_scratch1 : Ref sig .scVector := ⟨.vmem, 1, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x1x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8192x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4096x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8192x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x1x4096 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev grid1 : Pipeline.Grid := ⟨2, ![2, 16], ![false, false]⟩

def k1_off1 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  ![v2.toNat]
def k1_off2 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_3_r1 : BitVec 32 := 0#32
  ![v2.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S16384x64 : Shape := ⟨2, ![16384, 64]⟩
abbrev S8192x64 : Shape := ⟨2, ![8192, 64]⟩
abbrev S_ : Shape := ⟨0, ![]⟩
abbrev S16384 : Shape := ⟨1, ![16384]⟩
abbrev S16384x1 : Shape := ⟨2, ![16384, 1]⟩
abbrev S8192 : Shape := ⟨1, ![8192]⟩
abbrev S1x8192 : Shape := ⟨2, ![1, 8192]⟩
abbrev S16384x8192 : Shape := ⟨2, ![16384, 8192]⟩
abbrev S64x8192 : Shape := ⟨2, ![64, 8192]⟩
abbrev S1 : Shape := ⟨1, ![1]⟩
abbrev S1x1 : Shape := ⟨2, ![1, 1]⟩

abbrev nBuf : Space → Nat
  | .hbm => 65
  | .vmem => 0
  | .smem => 0
  | _ => 0

abbrev bufTy : (tb : Table) → Fin (tcTables nBuf tb) → BufTy
  | .hbm, ⟨0, _⟩ => ⟨S16384x64, .f32⟩
  | .hbm, ⟨1, _⟩ => ⟨S16384x64, .f32⟩
  | .hbm, ⟨2, _⟩ => ⟨S8192x64, .f32⟩
  | .hbm, ⟨3, _⟩ => ⟨S16384x64, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S8192x64, .f32⟩
  | .hbm, ⟨8, _⟩ => ⟨S_, .f32⟩
  | .hbm, ⟨9, _⟩ => ⟨S8192, .f32⟩
  | .hbm, ⟨10, _⟩ => ⟨S1x8192, .f32⟩
  | .hbm, ⟨11, _⟩ => ⟨S16384x8192, .f32⟩
  | .hbm, ⟨12, _⟩ => ⟨S16384x8192, .f32⟩
  | .hbm, ⟨13, _⟩ => ⟨S16384x8192, .f32⟩
  | .hbm, ⟨14, _⟩ => ⟨S64x8192, .f32⟩
  | .hbm, ⟨15, _⟩ => ⟨S16384x8192, .f32⟩
  | .hbm, ⟨16, _⟩ => ⟨S_, .f32⟩
  | .hbm, ⟨17, _⟩ => ⟨S16384x8192, .f32⟩
  | .hbm, ⟨18, _⟩ => ⟨S16384x8192, .f32⟩
  | .hbm, ⟨19, _⟩ => ⟨S16384x8192, .f32⟩
  | .hbm, ⟨20, _⟩ => ⟨S16384x8192, .i32⟩
  | .hbm, ⟨21, _⟩ => ⟨S_, .f32⟩
  | .hbm, ⟨22, _⟩ => ⟨S_, .i32⟩
  | .hbm, ⟨23, _⟩ => ⟨S16384, .f32⟩
  | .hbm, ⟨24, _⟩ => ⟨S16384, .i32⟩
  | .hbm, ⟨25, _⟩ => ⟨S_, .i32⟩
  | .hbm, ⟨26, _⟩ => ⟨S16384, .i32⟩
  | .hbm, ⟨27, _⟩ => ⟨S16384, .i1⟩
  | .hbm, ⟨28, _⟩ => ⟨S_, .i32⟩
  | .hbm, ⟨29, _⟩ => ⟨S16384, .i32⟩
  | .hbm, ⟨30, _⟩ => ⟨S16384, .i32⟩
  | .hbm, ⟨31, _⟩ => ⟨S16384, .i32⟩
  | .hbm, ⟨32, _⟩ => ⟨S16384x1, .i32⟩
  | .hbm, ⟨33, _⟩ => ⟨S1, .i32⟩
  | .hbm, ⟨34, _⟩ => ⟨S_, .i32⟩
  | .hbm, ⟨35, _⟩ => ⟨S16384x1, .i32⟩
  | .hbm, ⟨36, _⟩ => ⟨S16384x1, .i1⟩
  | .hbm, ⟨37, _⟩ => ⟨S1x1, .i32⟩
  | .hbm, ⟨38, _⟩ => ⟨S16384x1, .i32⟩
  | .hbm, ⟨39, _⟩ => ⟨S16384x1, .i1⟩
  | .hbm, ⟨40, _⟩ => ⟨S16384x1, .i1⟩
  | .hbm, ⟨41, _⟩ => ⟨S_, .i1⟩
  | .hbm, ⟨42, _⟩ => ⟨S16384, .i1⟩
  | .hbm, ⟨43, _⟩ => ⟨S16384x64, .f32⟩
  | .hbm, ⟨44, _⟩ => ⟨S16384x64, .i1⟩
  | .hbm, ⟨45, _⟩ => ⟨S_, .f32⟩
  | .hbm, ⟨46, _⟩ => ⟨S16384x64, .f32⟩
  | .hbm, ⟨47, _⟩ => ⟨S16384x64, .f32⟩
  | .hbm, ⟨48, _⟩ => ⟨S16384x64, .f32⟩
  | .hbm, ⟨49, _⟩ => ⟨S16384x64, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S16384x64, .f32⟩
  | .hbm, ⟨55, _⟩ => ⟨S16384x64, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S16384x64, .f32⟩
  | .hbm, ⟨64, _⟩ => ⟨S16384x64, .f32⟩
  | _, _ => ⟨S16384x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_call0_v0 : Ref sig .tc := ⟨.hbm, 20, rfl⟩
abbrev main_call0_cst : Ref sig .tc := ⟨.hbm, 21, rfl⟩
abbrev main_call0_c : Ref sig .tc := ⟨.hbm, 22, rfl⟩
abbrev main_call0_v1_0 : Ref sig .tc := ⟨.hbm, 23, rfl⟩
abbrev main_v14 : Ref sig .tc := ⟨.hbm, 24, rfl⟩
abbrev main_call1_c : Ref sig .tc := ⟨.hbm, 25, rfl⟩
abbrev main_call1_v0 : Ref sig .tc := ⟨.hbm, 26, rfl⟩
abbrev main_call1_v1 : Ref sig .tc := ⟨.hbm, 27, rfl⟩
abbrev main_call1_c_0 : Ref sig .tc := ⟨.hbm, 28, rfl⟩
abbrev main_call1_v2 : Ref sig .tc := ⟨.hbm, 29, rfl⟩
abbrev main_call1_v3 : Ref sig .tc := ⟨.hbm, 30, rfl⟩
abbrev main_call1_v4 : Ref sig .tc := ⟨.hbm, 31, rfl⟩
abbrev main_call1_v5 : Ref sig .tc := ⟨.hbm, 32, rfl⟩
abbrev main_call1_c_1 : Ref sig .tc := ⟨.hbm, 33, rfl⟩
abbrev main_call1_c_2 : Ref sig .tc := ⟨.hbm, 34, rfl⟩
abbrev main_call1_v6 : Ref sig .tc := ⟨.hbm, 35, rfl⟩
abbrev main_call1_v7 : Ref sig .tc := ⟨.hbm, 36, rfl⟩
abbrev main_call1_v8 : Ref sig .tc := ⟨.hbm, 37, rfl⟩
abbrev main_call1_v9 : Ref sig .tc := ⟨.hbm, 38, rfl⟩
abbrev main_call1_v10 : Ref sig .tc := ⟨.hbm, 39, rfl⟩
abbrev main_call1_v11 : Ref sig .tc := ⟨.hbm, 40, rfl⟩
abbrev main_call1_c_3 : Ref sig .tc := ⟨.hbm, 41, rfl⟩
abbrev main_call1_v12 : Ref sig .tc := ⟨.hbm, 42, rfl⟩
abbrev main_call1_v13 : Ref sig .tc := ⟨.hbm, 43, rfl⟩
abbrev main_call1_v14 : Ref sig .tc := ⟨.hbm, 44, rfl⟩
abbrev main_call1_cst : Ref sig .tc := ⟨.hbm, 45, rfl⟩
abbrev main_call1_v15 : Ref sig .tc := ⟨.hbm, 46, rfl⟩
abbrev main_v15 : Ref sig .tc := ⟨.hbm, 47, rfl⟩
abbrev main_v16 : Ref sig .tc := ⟨.hbm, 48, rfl⟩
abbrev main_v17 : Ref sig .tc := ⟨.hbm, 49, rfl⟩
abbrev main_cst_2 : Ref sig .tc := ⟨.hbm, 50, rfl⟩
abbrev main_v18 : Ref sig .tc := ⟨.hbm, 51, rfl⟩
abbrev main_cst_3 : Ref sig .tc := ⟨.hbm, 52, rfl⟩
abbrev main_v19 : Ref sig .tc := ⟨.hbm, 53, rfl⟩
abbrev main_v20 : Ref sig .tc := ⟨.hbm, 54, rfl⟩
abbrev main_v21 : Ref sig .tc := ⟨.hbm, 55, rfl⟩
abbrev main_cst_4 : Ref sig .tc := ⟨.hbm, 56, rfl⟩
abbrev main_v22 : Ref sig .tc := ⟨.hbm, 57, rfl⟩
abbrev main_cst_5 : Ref sig .tc := ⟨.hbm, 58, rfl⟩
abbrev main_v23 : Ref sig .tc := ⟨.hbm, 59, rfl⟩
abbrev main_cst_6 : Ref sig .tc := ⟨.hbm, 60, rfl⟩
abbrev main_v24 : Ref sig .tc := ⟨.hbm, 61, rfl⟩
abbrev main_v25 : Ref sig .tc := ⟨.hbm, 62, rfl⟩
abbrev main_v26 : Ref sig .tc := ⟨.hbm, 63, rfl⟩
abbrev main_v27 : Ref sig .tc := ⟨.hbm, 64, rfl⟩

abbrev nD : Nat := 1
abbrev τ : Topo := Topo.v7x

variable {F : FTy → Type} [FloatOps F]
-- ==== Proof.Scan.lean ====
/-
  The body of the argmin kernel, read as a scan.

  One grid point holds 4096 tokens and all 8192 codes. The printed body walks over the codes in groups of eight, 512
  groups in each half of the code book, keeping per sublane and token the least distance met and the group it was met
  in; each half's eight sublanes are then played off against one another, and the two halves against each other. The
  printed body spells the 1024 groups out one after the other. Here the same values are two recursions over the
  group's number, and `body_eq` states that the printed body IS the short program over them.
-/
module

public import proofs.«01_k».proof.Proof.Gen.KernelIdeal
public import Idealize.ShloMosaic.Lib.Pipeline.Regions

@[expose] public section

set_option maxRecDepth 100000

noncomputable section

namespace Cert.Proof.Scan

open Idealize.ShloMosaic Idealize.SL.Sem
open Cert.KernelIdeal
open Cert.KernelIdeal.Facts₀ Cert.KernelIdeal.Facts

variable {F : FTy → Type} [FloatOps F] [Facts]

/-! ## The side conditions at a symbolic group -/

theorem slices_norm (r : ℕ) : S1024x1.Slices ![8 * (r % 128), 0] S8x1 := by
  refine ⟨rfl, fun a => ?_⟩
  fin_cases a <;> simp <;> omega

theorem slices_prod (r : ℕ) : S1024x4096.Slices ![8 * (r % 128), 0] S8x4096 := by
  refine ⟨rfl, fun a => ?_⟩
  fin_cases a <;> simp <;> omega

/-! ## One group's distances -/

/-- The squared norms of the point's tokens, as one row. -/
def tokenNorm (x : Vec F S1x1x4096 .f32) : FVec F S1x4096 .f32 :=
  shapeCast S1x4096 (shapeCast S1x1x4096 x shapeCasts_S1x1x4096_S1x1x4096) shapeCasts_S1x1x4096_S1x4096

/-- The squared norms of one chunk's codes. -/
def codeNorm (n : Vec F S1024x1 .f32) : FVec F S1024x1 .f32 := shapeCast S1024x1 n shapeCasts_S1024x1_S1024x1

/-- One chunk's codes, minus twice them, against the tokens. -/
def cross (x : Vec F S4096x64 .bf16) (e : Vec F S1024x64 .bf16) : FVec F S1024x4096 .f32 :=
  matmul dot_S1024x64_S4096x64_S1024x4096_1_1_0_0_n_n none (shapeCast S1024x64 e shapeCasts_S1024x64_S1024x64)
    (shapeCast S4096x64 x shapeCasts_S4096x64_S4096x64) (constant S1024x4096 .f32 0x00000000#32)

/-- The distances of group `r`'s eight codes from every token, out of the norms and products of the chunk it lies in. -/
def groupDist (xx : FVec F S1x4096 .f32) (n : FVec F S1024x1 .f32) (m : FVec F S1024x4096 .f32) (r : ℕ) : FVec F S8x4096 .f32 :=
  addf (addf (broadcastTo S8x4096 (extractStridedSlice S8x1 ![8 * (r % 128), 0] n (slices_norm r)) broadcasts_S8x1_S8x4096)
      (broadcastTo S8x4096 xx broadcasts_S1x4096_S8x4096))
    (extractStridedSlice S8x4096 ![8 * (r % 128), 0] m (slices_prod r))

/-- One of four values by number. -/
def pick4 {α : Type} (a b c d : α) : ℕ → α
  | 0 => a
  | 1 => b
  | 2 => c
  | _ => d

/-! ## The scan over a half's groups -/

/-- The least distance per sublane and token after `k` groups: from infinity, a group replaces it where strictly less. -/
def least (d : ℕ → FVec F S8x4096 .f32) (k : ℕ) : FVec F S8x4096 .f32 :=
  Nat.rec (motive := fun _ => FVec F S8x4096 .f32) (broadcast S8x4096 (Scalar.ofBits .f32 0x7F800000#32))
    (fun n a => select (cmpf .olt (d n) a) (d n) a) k

/-- The group it was met in, numbered from `base`. -/
def leastAt (d : ℕ → FVec F S8x4096 .f32) (base k : ℕ) : IVec S8x4096 32 :=
  Nat.rec (motive := fun _ => IVec S8x4096 32) (broadcast S8x4096 0#32)
    (fun n a => select (cmpf .olt (d n) (least d n)) (broadcast S8x4096 (BitVec.ofNat 32 (base + n))) a) k

/-! ## The playoff between sublanes -/

/-- Where the second contender wins: strictly less, or equal with the smaller code. -/
def wins {s : Shape} (v' v : FVec F s .f32) (c' c : IVec s 32) : IVec s 1 :=
  ori (cmpf .olt v' v) (andi (cmpf .oeq v' v) (cmpi .slt c' c))

/-- The codes a half's sublanes hold: eight times the group plus the sublane. -/
def codes (r : IVec S8x4096 32) : IVec S8x4096 32 :=
  addi (muli r (broadcast S8x4096 8#32)) (iota .tc S8x4096 32 [0] iota_S8x4096_d0_w32)

def win8 (v : FVec F S8x4096 .f32) (c : IVec S8x4096 32) : IVec S4x4096 1 :=
  wins (extractStridedSlice S4x4096 ![4, 0] v slices_S8x4096_o4_0_S4x4096) (extractStridedSlice S4x4096 ![0, 0] v slices_S8x4096_o0_0_S4x4096)
    (extractStridedSlice S4x4096 ![4, 0] c slices_S8x4096_o4_0_S4x4096) (extractStridedSlice S4x4096 ![0, 0] c slices_S8x4096_o0_0_S4x4096)
/-- Eight sublanes to four: each against the one four below. -/
def to4 {α : Type} (w : IVec S4x4096 1) (u : S8x4096.Idx → α) : S4x4096.Idx → α :=
  select w (extractStridedSlice S4x4096 ![4, 0] u slices_S8x4096_o4_0_S4x4096) (extractStridedSlice S4x4096 ![0, 0] u slices_S8x4096_o0_0_S4x4096)

def win4 (v : FVec F S4x4096 .f32) (c : IVec S4x4096 32) : IVec S2x4096 1 :=
  wins (extractStridedSlice S2x4096 ![2, 0] v slices_S4x4096_o2_0_S2x4096) (extractStridedSlice S2x4096 ![0, 0] v slices_S4x4096_o0_0_S2x4096)
    (extractStridedSlice S2x4096 ![2, 0] c slices_S4x4096_o2_0_S2x4096) (extractStridedSlice S2x4096 ![0, 0] c slices_S4x4096_o0_0_S2x4096)
/-- Four to two. -/
def to2 {α : Type} (w : IVec S2x4096 1) (u : S4x4096.Idx → α) : S2x4096.Idx → α :=
  select w (extractStridedSlice S2x4096 ![2, 0] u slices_S4x4096_o2_0_S2x4096) (extractStridedSlice S2x4096 ![0, 0] u slices_S4x4096_o0_0_S2x4096)

def win2 (v : FVec F S2x4096 .f32) (c : IVec S2x4096 32) : IVec S1x4096 1 :=
  wins (extractStridedSlice S1x4096 ![1, 0] v slices_S2x4096_o1_0_S1x4096) (extractStridedSlice S1x4096 ![0, 0] v slices_S2x4096_o0_0_S1x4096)
    (extractStridedSlice S1x4096 ![1, 0] c slices_S2x4096_o1_0_S1x4096) (extractStridedSlice S1x4096 ![0, 0] c slices_S2x4096_o0_0_S1x4096)
/-- Two to one. -/
def to1 {α : Type} (w : IVec S1x4096 1) (u : S2x4096.Idx → α) : S1x4096.Idx → α :=
  select w (extractStridedSlice S1x4096 ![1, 0] u slices_S2x4096_o1_0_S1x4096) (extractStridedSlice S1x4096 ![0, 0] u slices_S2x4096_o0_0_S1x4096)

/-- A half's least distance per token, -/
def halfV (v : FVec F S8x4096 .f32) (c : IVec S8x4096 32) : FVec F S1x4096 .f32 :=
  to1 (win2 (to2 (win4 (to4 (win8 v c) v) (to4 (win8 v c) c)) (to4 (win8 v c) v)) (to2 (win4 (to4 (win8 v c) v) (to4 (win8 v c) c)) (to4 (win8 v c) c)))
    (to2 (win4 (to4 (win8 v c) v) (to4 (win8 v c) c)) (to4 (win8 v c) v))
/-- and the code at it. -/
def halfC (v : FVec F S8x4096 .f32) (c : IVec S8x4096 32) : IVec S1x4096 32 :=
  to1 (win2 (to2 (win4 (to4 (win8 v c) v) (to4 (win8 v c) c)) (to4 (win8 v c) v)) (to2 (win4 (to4 (win8 v c) v) (to4 (win8 v c) c)) (to4 (win8 v c) c)))
    (to2 (win4 (to4 (win8 v c) v) (to4 (win8 v c) c)) (to4 (win8 v c) c))

/-! ## The two halves -/

/-- The second half wins where its least distance is below the first's, the first's taken through sixteen bits. -/
def lastWins (va vb : FVec F S1x4096 .f32) : IVec S1x4096 1 :=
  cmpf .olt vb (extf .f32 (truncf .bf16 va bitsLt_bf16_f32) bitsLt_bf16_f32)

/-- The code each token of the point is given, from the two halves' group distances. -/
def pointCode (da db : ℕ → FVec F S8x4096 .f32) : IVec S1x4096 32 :=
  select (lastWins (halfV (least da 512) (codes (leastAt da 0 512))) (halfV (least db 512) (codes (leastAt db 512 512))))
    (halfC (least db 512) (codes (leastAt db 512 512))) (halfC (least da 512) (codes (leastAt da 0 512)))

/-- Its distance. -/
def pointDist (da db : ℕ → FVec F S8x4096 .f32) : FVec F S1x4096 .f32 :=
  select (lastWins (halfV (least da 512) (codes (leastAt da 0 512))) (halfV (least db 512) (codes (leastAt db 512 512))))
    (halfV (least db 512) (codes (leastAt db 512 512))) (halfV (least da 512) (codes (leastAt da 0 512)))

/-- The sum of the point's least distances added to what the running loss held. -/
def addLoss (l : FVec F S1x1 .f32) (v : FVec F S1x1x4096 .f32) : FVec F S1x1 .f32 :=
  addf l
    (broadcast S1x1 (extractAt ![0, 0, 0] (shapeCast S1x1x1 (multiReduction .add [1, 2] S1 v
      0x00000000#32 reduces_S1x1x4096_S1 (.inl rfl) rfl) shapeCasts_S1_S1x1x1) inpos_S1x1x1_p0_0_0))

/-! ## The body -/

/-- The group distances of a half whose four chunks' norms and codes are given. -/
def halfDist (xx : Vec F S1x1x4096 .f32) (x : Vec F S4096x64 .bf16) (e0 e1 e2 e3 : Vec F S1024x64 .bf16) (n0 n1 n2 n3 : Vec F S1024x1 .f32) (r : ℕ) :
    FVec F S8x4096 .f32 :=
  groupDist (tokenNorm xx) (pick4 (codeNorm n0) (codeNorm n1) (codeNorm n2) (codeNorm n3) (r / 128))
    (pick4 (cross x e0) (cross x e1) (cross x e2) (cross x e3) (r / 128)) r

/-- Whether the point is the first of the grid. -/
def atFirst (i : grid0.Coords) : BitVec 1 := Scalar.cmpi .ne (Scalar.extui (Scalar.cmpi .eq (BitVec.ofNat 32 (i 0).val) 0#32)) 0#32

/-- The short program: the loads, the codes stored, the loss cleared at the first point, the point's loss added. -/
def body (i : grid0.Coords) (arg1 : Memref sig .tc .vmem S1x1x4096 .f32) (arg2 : Memref sig .tc .vmem S8192x1 .f32)
    (arg3 : Memref sig .tc .vmem S4096x64 .bf16) (arg4 : Memref sig .tc .vmem S8192x64 .bf16)
    (arg5 : Memref sig .tc .vmem S1x1x4096 .i32) (arg6 : Memref sig .tc .vmem S1x1 .f32) :
    Prog (TpuEff nD τ sig (Elt F) Λ₀ .tc) PUnit := do
  let x : Vec F S4096x64 .bf16 ← Prog.lift (.load arg3 (Rect.unit (s := S4096x64) ![0, 0] S4096x64.size inb_S4096x64_S4096x64_0_0).toLoadRect (View.loadsAt_vmem h_S4096x64))
  let xx : Vec F S1x1x4096 .f32 ← Prog.lift (.load arg1 (Rect.unit (s := S1x1x4096) ![0, 0, 0] S1x1x4096.size inb_S1x1x4096_S1x1x4096_0_0_0).toLoadRect (View.loadsAt_vmem h_S1x1x4096))
  let e0 : Vec F S1024x64 .bf16 ← Prog.lift (.load arg4 (Rect.unit (s := S8192x64) ![0, 0] S1024x64.size inb_S8192x64_S1024x64_0_0).toLoadRect (View.loadsAt_vmem h_S1024x64))
  let n0 : Vec F S1024x1 .f32 ← Prog.lift (.load arg2 (Rect.unit (s := S8192x1) ![0, 0] S1024x1.size inb_S8192x1_S1024x1_0_0).toLoadRect (View.loadsAt_vmem h_S1024x1))
  let e1 : Vec F S1024x64 .bf16 ← Prog.lift (.load arg4 (Rect.unit (s := S8192x64) ![1024, 0] S1024x64.size inb_S8192x64_S1024x64_1024_0).toLoadRect (View.loadsAt_vmem h_S1024x64))
  let n1 : Vec F S1024x1 .f32 ← Prog.lift (.load arg2 (Rect.unit (s := S8192x1) ![1024, 0] S1024x1.size inb_S8192x1_S1024x1_1024_0).toLoadRect (View.loadsAt_vmem h_S1024x1))
  let e2 : Vec F S1024x64 .bf16 ← Prog.lift (.load arg4 (Rect.unit (s := S8192x64) ![2048, 0] S1024x64.size inb_S8192x64_S1024x64_2048_0).toLoadRect (View.loadsAt_vmem h_S1024x64))
  let n2 : Vec F S1024x1 .f32 ← Prog.lift (.load arg2 (Rect.unit (s := S8192x1) ![2048, 0] S1024x1.size inb_S8192x1_S1024x1_2048_0).toLoadRect (View.loadsAt_vmem h_S1024x1))
  let e3 : Vec F S1024x64 .bf16 ← Prog.lift (.load arg4 (Rect.unit (s := S8192x64) ![3072, 0] S1024x64.size inb_S8192x64_S1024x64_3072_0).toLoadRect (View.loadsAt_vmem h_S1024x64))
  let n3 : Vec F S1024x1 .f32 ← Prog.lift (.load arg2 (Rect.unit (s := S8192x1) ![3072, 0] S1024x1.size inb_S8192x1_S1024x1_3072_0).toLoadRect (View.loadsAt_vmem h_S1024x1))
  let e4 : Vec F S1024x64 .bf16 ← Prog.lift (.load arg4 (Rect.unit (s := S8192x64) ![4096, 0] S1024x64.size inb_S8192x64_S1024x64_4096_0).toLoadRect (View.loadsAt_vmem h_S1024x64))
  let n4 : Vec F S1024x1 .f32 ← Prog.lift (.load arg2 (Rect.unit (s := S8192x1) ![4096, 0] S1024x1.size inb_S8192x1_S1024x1_4096_0).toLoadRect (View.loadsAt_vmem h_S1024x1))
  let e5 : Vec F S1024x64 .bf16 ← Prog.lift (.load arg4 (Rect.unit (s := S8192x64) ![5120, 0] S1024x64.size inb_S8192x64_S1024x64_5120_0).toLoadRect (View.loadsAt_vmem h_S1024x64))
  let n5 : Vec F S1024x1 .f32 ← Prog.lift (.load arg2 (Rect.unit (s := S8192x1) ![5120, 0] S1024x1.size inb_S8192x1_S1024x1_5120_0).toLoadRect (View.loadsAt_vmem h_S1024x1))
  let e6 : Vec F S1024x64 .bf16 ← Prog.lift (.load arg4 (Rect.unit (s := S8192x64) ![6144, 0] S1024x64.size inb_S8192x64_S1024x64_6144_0).toLoadRect (View.loadsAt_vmem h_S1024x64))
  let n6 : Vec F S1024x1 .f32 ← Prog.lift (.load arg2 (Rect.unit (s := S8192x1) ![6144, 0] S1024x1.size inb_S8192x1_S1024x1_6144_0).toLoadRect (View.loadsAt_vmem h_S1024x1))
  let e7 : Vec F S1024x64 .bf16 ← Prog.lift (.load arg4 (Rect.unit (s := S8192x64) ![7168, 0] S1024x64.size inb_S8192x64_S1024x64_7168_0).toLoadRect (View.loadsAt_vmem h_S1024x64))
  let n7 : Vec F S1024x1 .f32 ← Prog.lift (.load arg2 (Rect.unit (s := S8192x1) ![7168, 0] S1024x1.size inb_S8192x1_S1024x1_7168_0).toLoadRect (View.loadsAt_vmem h_S1024x1))
  let _ : Vec F S1x1x4096 .i32 ← Prog.lift (.load arg5 (Rect.unit (s := S1x1x4096) ![0, 0, 0] S1x1x4096.size inb_S1x1x4096_S1x1x4096_0_0_0).toLoadRect (View.loadsAt_vmem h_S1x1x4096))
  Prog.lift (.store arg5 (Rect.unit (s := S1x1x4096) ![0, 0, 0] S1x1x4096.size inb_S1x1x4096_S1x1x4096_0_0_0)
    (shapeCast S1x1x4096 (pointCode (halfDist xx x e0 e1 e2 e3 n0 n1 n2 n3) (halfDist xx x e4 e5 e6 e7 n4 n5 n6 n7)) shapeCasts_S1x4096_S1x1x4096)
    Finset.univ (View.stores_vmem_bits_univ h_S1x1x4096 rfl) (.inl rfl))
  let ⟨l, v⟩ : Σ' (_ : FVec F S1x1 .f32), FVec F S1x1x4096 .f32 ← (do
    if _h : atFirst i = 1#1 then do
      let _ : Vec F S1x1 .f32 ← Prog.lift (.load arg6 (Rect.unit (s := S1x1) ![0, 0] S1x1.size inb_S1x1_S1x1_0_0).toLoadRect (View.loadsAt_vmem h_S1x1))
      Prog.lift (.store arg6 (Rect.unit (s := S1x1) ![0, 0] S1x1.size inb_S1x1_S1x1_0_0) (broadcast S1x1 (Scalar.ofBits .f32 0x00000000#32))
        Finset.univ (View.stores_vmem_bits_univ h_S1x1 rfl) (.inl rfl))
      pure ⟨⟩
    else do
      pure ⟨⟩
    let l : Vec F S1x1 .f32 ← Prog.lift (.load arg6 (Rect.unit (s := S1x1) ![0, 0] S1x1.size inb_S1x1_S1x1_0_0).toLoadRect (View.loadsAt_vmem h_S1x1))
    pure ⟨shapeCast S1x1 l shapeCasts_S1x1_S1x1,
      shapeCast S1x1x4096 (pointDist (halfDist xx x e0 e1 e2 e3 n0 n1 n2 n3) (halfDist xx x e4 e5 e6 e7 n4 n5 n6 n7)) shapeCasts_S1x4096_S1x1x4096⟩)
  let _ : Vec F S1x1 .f32 ← Prog.lift (.load arg6 (Rect.unit (s := S1x1) ![0, 0] S1x1.size inb_S1x1_S1x1_0_0).toLoadRect (View.loadsAt_vmem h_S1x1))
  Prog.lift (.store arg6 (Rect.unit (s := S1x1) ![0, 0] S1x1.size inb_S1x1_S1x1_0_0)
    (addLoss l v)
    Finset.univ (View.stores_vmem_bits_univ h_S1x1 rfl) (.inl rfl))
  pure ⟨⟩

/-- The printed body is the short program. -/
theorem body_eq (i : grid0.Coords) (arg1 : Memref sig .tc .vmem S1x1x4096 .f32) (harg1 : arg1.IsWhole) (arg2 : Memref sig .tc .vmem S8192x1 .f32) (harg2 : arg2.IsWhole)
    (arg3 : Memref sig .tc .vmem S4096x64 .bf16) (harg3 : arg3.IsWhole) (arg4 : Memref sig .tc .vmem S8192x64 .bf16) (harg4 : arg4.IsWhole)
    (arg5 : Memref sig .tc .vmem S1x1x4096 .i32) (harg5 : arg5.IsWhole) (arg6 : Memref sig .tc .vmem S1x1 .f32) (harg6 : arg6.IsWhole) :
    body (F := F) i arg1 arg2 arg3 arg4 arg5 arg6
      = cc0_vq_argmin i arg1 harg1 arg2 harg2 arg3 harg3 arg4 harg4 arg5 harg5 arg6 harg6 := by
  chain_rfl

end Cert.Proof.Scan
-- ==== Proof.Point.lean ====
/-
  One grid point of the argmin kernel, run: the codes and the running loss that it leaves in its windows, as functions of
  the blocks that it is given.
-/
module

public import proofs.«01_k».proof.Proof.Scan
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import Idealize.ShloMosaic.Lib.VecWindow

@[expose] public section

set_option maxRecDepth 100000

noncomputable section

namespace Cert.Proof.Point

open Idealize.ShloMosaic Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal
open Cert.KernelIdeal.Facts₀ Cert.KernelIdeal.Facts
open Cert.Proof.Scan
open Idealize.ShloMosaic.SparseCore.Cfg (HIx)

variable {F : FTy → Type} [FloatOps F] [Facts]

/-! ## What a point leaves, of what its windows hold -/

theorem inb_book (j : Fin 8) : ∀ a : Fin 2, (![1024 * j.val, 0] : Fin 2 → ℕ) a + S1024x64.size a ≤ S8192x64.size a := by
  intro a; fin_cases a <;> simp <;> omega

theorem inb_norm (j : Fin 8) : ∀ a : Fin 2, (![1024 * j.val, 0] : Fin 2 → ℕ) a + S1024x1.size a ≤ S8192x1.size a := by
  intro a; fin_cases a <;> simp <;> omega

/-- The code book's rows `1024 j … 1024 j + 1023`. -/
def bookRows (e : S8192x64.Idx → Elt F .bf16) (j : Fin 8) : FVec F S1024x64 .bf16 :=
  fun k => e ((Rect.unit (s := S8192x64) ![1024 * j.val, 0] S1024x64.size (inb_book j)).emb k)

/-- The squared norms of those rows. -/
def normRows (n : S8192x1.Idx → Elt F .f32) (j : Fin 8) : FVec F S1024x1 .f32 :=
  fun k => n ((Rect.unit (s := S8192x1) ![1024 * j.val, 0] S1024x1.size (inb_norm j)).emb k)

/-- The distances of the point's tokens to the codes of group `r` of the first half of the book, -/
def distA (xx : S1x1x4096.Idx → Elt F .f32) (n : S8192x1.Idx → Elt F .f32) (x : S4096x64.Idx → Elt F .bf16)
    (e : S8192x64.Idx → Elt F .bf16) : ℕ → FVec F S8x4096 .f32 :=
  halfDist xx x (bookRows e 0) (bookRows e 1) (bookRows e 2) (bookRows e 3) (normRows n 0) (normRows n 1) (normRows n 2) (normRows n 3)

/-- and of the second. -/
def distB (xx : S1x1x4096.Idx → Elt F .f32) (n : S8192x1.Idx → Elt F .f32) (x : S4096x64.Idx → Elt F .bf16)
    (e : S8192x64.Idx → Elt F .bf16) : ℕ → FVec F S8x4096 .f32 :=
  halfDist xx x (bookRows e 4) (bookRows e 5) (bookRows e 6) (bookRows e 7) (normRows n 4) (normRows n 5) (normRows n 6) (normRows n 7)

/-- The codes the point writes, one to a token, -/
def codesOf (xx : S1x1x4096.Idx → Elt F .f32) (n : S8192x1.Idx → Elt F .f32) (x : S4096x64.Idx → Elt F .bf16)
    (e : S8192x64.Idx → Elt F .bf16) : S1x1x4096.Idx → Elt F .i32 :=
  shapeCast S1x1x4096 (pointCode (distA xx n x e) (distB xx n x e)) shapeCasts_S1x4096_S1x1x4096

/-- and the running loss, from what it was. -/
def lossOf (xx : S1x1x4096.Idx → Elt F .f32) (n : S8192x1.Idx → Elt F .f32) (x : S4096x64.Idx → Elt F .bf16)
    (e : S8192x64.Idx → Elt F .bf16) (l : S1x1.Idx → Elt F .f32) : S1x1.Idx → Elt F .f32 :=
  addLoss (shapeCast S1x1 l shapeCasts_S1x1_S1x1)
    (shapeCast S1x1x4096 (pointDist (distA xx n x e) (distB xx n x e)) shapeCasts_S1x4096_S1x1x4096)

/-- No loss yet. -/
def noLoss : S1x1.Idx → Elt F .f32 := broadcast S1x1 (Scalar.ofBits .f32 0x00000000#32)

abbrev UU : Type := URounds (GSem nD τ sig) ℕ × (URounds (GSem nD τ sig) Unit × Counters)

local notation "𝕄" => MT nD τ sig (HIx 1) (Elt F) ℕ UU ℕ

/-- One point of the kernel: from the staged windows, the kernel runs to its return; the four inputs stay as they are,
    the codes' window holds the point's codes, and the loss's window the loss with the point's part added, counted
    from zero at the first point. -/
theorem point_run (c : Dev nD) (i : grid0.Coords) (a1 : Memref sig .tc .vmem S1x1x4096 .f32) (a2 : Memref sig .tc .vmem S8192x1 .f32)
    (a3 : Memref sig .tc .vmem S4096x64 .bf16) (a4 : Memref sig .tc .vmem S8192x64 .bf16)
    (a5 : Memref sig .tc .vmem S1x1x4096 .i32) (a6 : Memref sig .tc .vmem S1x1 .f32)
    (xx : S1x1x4096.Idx → Elt F .f32) (n : S8192x1.Idx → Elt F .f32) (x : S4096x64.Idx → Elt F .bf16)
    (e : S8192x64.Idx → Elt F .bf16) (d5 : S1x1x4096.Idx → Elt F .i32) (d6 : S1x1.Idx → Elt F .f32) (Q : PUnit → sProp 𝕄) :
    iprop(owns c.tc a1 fullShare xx ∗ owns c.tc a2 fullShare n ∗ owns c.tc a3 fullShare x ∗ owns c.tc a4 fullShare e
      ∗ owns c.tc a5 fullShare d5 ∗ owns c.tc a6 fullShare d6
      ∗ (iprop(owns c.tc a1 fullShare xx ∗ owns c.tc a2 fullShare n ∗ owns c.tc a3 fullShare x ∗ owns c.tc a4 fullShare e
          ∗ owns c.tc a5 fullShare (codesOf xx n x e)
          ∗ owns c.tc a6 fullShare (lossOf xx n x e (if atFirst i = 1#1 then noLoss else d6))) -∗ Q ⟨⟩))
    ⊢ wp frame (wpE (defs₀ (F := F)) Variants.none c.tc none) Set.univ (Scan.body i a1 a2 a3 a4 a5 a6) Q := by
  unfold Scan.body owns
  iintro ⟨⟨%f1, %h1, H1⟩, ⟨%f2, %h2, H2⟩, ⟨%f3, %h3, H3⟩, ⟨%f4, %h4, H4⟩, ⟨%f5, %h5, H5⟩, ⟨%f6, %h6, H6⟩, Hk⟩
  sl_exec
  unfold point_run.sl.H5_1 point_run.sl.r_1 point_run.sl.r
  sl_step
  iapply Hk
  isplitl [H1]; · iexists f1; isplitr; · ipureintro; exact h1
                  iexact H1
  isplitl [H2]; · iexists f2; isplitr; · ipureintro; exact h2
                  iexact H2
  isplitl [H3]; · iexists f3; isplitr; · ipureintro; exact h3
                  iexact H3
  isplitl [H4]; · iexists f4; isplitr; · ipureintro; exact h4
                  iexact H4
  subst h1 h2 h3 h4 h5 h6
  isplitl [H5]
  · iexists _; isplitr; swap; · iexact H5
    ipureintro
    refine (View.read_writes_full _ _ _ _ []).trans ?_
    rw [View.readAt_full, View.readAt_full]
    rfl
  · iexists _; isplitr; swap; · iexact H6
    ipureintro
    unfold point_run.sl.l
    refine (View.read_writes_full _ _ _ _ []).trans ?_
    rw [View.readAt_full, View.readAt_full, View.readAt_full]
    by_cases hi : atFirst i = 1#1
    · rw [dif_pos hi, if_pos hi, View.read_writes_full]
      rfl
    · rw [dif_neg hi, if_neg hi]
      rfl

end Cert.Proof.Point
-- ==== Proof.Setup.lean ====
/-
  The program as its proof sees it: the two kernels' body tables, the SparseCore configuration and its side conditions,
  the resource algebra (the handshakes of the SparseCore launch, the staging cells of the TensorCore kernel, and the
  counters of the transfers), and the fact that a TensorCore that owes only its launch signals owes nothing at the
  index at which a kernel's own waits are recorded.
-/
module

public import proofs.«01_k».proof.Proof.Point
public import proofs.«01_k».proof.Proof.Gen.KernelIdeal
public import proofs.«01_k».proof.Proof.Gen.KernelIdeal.Launch
public import proofs.«01_k».proof.Proof.Gen.KernelIdeal.Points
public import Idealize.ShloMosaic.Lib.Pipeline.RegionArrays
public import Idealize.ShloMosaic.Lib.Pipeline.FrameTail
public import Idealize.ShloMosaic.Lib.Pipeline.FrameBody

@[expose] public section

noncomputable section

namespace Cert.Proof.Setup

open Idealize.ShloMosaic Idealize.ShloMosaic.Tactic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen
open Cert.Proof.Point (UU)

variable {F : FTy → Type}

/-- The labels of the TensorCore kernel's pipeline and the two kernels' bodies. -/
abbrev ΛP : Labels := Pipeline.Sig Λ₀ (Fin 1) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none
abbrev adm : (p : Fin 1) → (pcfgs (F := F) p).Adm := fun p => (cfgs p).toPCfg_adm

theorem nSub_zero : (K (F := F)).nSub 0 = 16 := rfl
theorem nCore_zero : (K (F := F)).nCore 0 = 2 := rfl

/-- The launch's side conditions on its semaphores and buffers. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

local notation "𝕄" => MT nD τ sig (HIx 1) (Elt F) ℕ UU ℕ

/-- The handshakes' part of the resource algebra, -/
abbrev EH : Emb (URounds (GSem nD τ sig) ℕ) (MT nD τ sig (HIx 1) (Elt F) ℕ UU ℕ) := embL
/-- and the staging cells' part. -/
abbrev EP : Emb (URounds (GSem nD τ sig) Unit) (MT nD τ sig (HIx 1) (Elt F) ℕ UU ℕ) :=
  (Emb.inl).trans (embR (A := URounds (GSem nD τ sig) ℕ) (B := URounds (GSem nD τ sig) Unit × Counters))

instance EP_landsIn : (EP : Emb (URounds (GSem nD τ sig) Unit) 𝕄).LandsIn (upEmb : UEmb _ 𝕄) := by unfold EP; infer_instance

/-- A TensorCore's launch signals are owed at stages of the call, none of them at the kernels' own index. -/
theorem Otc_none (d : Dev nD) (n : ℕ) (g : GSem nD τ sig) : (K (F := F)).Otc d n g (none : HIx 1) = 0 := by
  by_contra h
  have := (K (F := F)).lev_of_Otc_pos (Nat.pos_of_ne_zero h)
  rw [SparseCore.Cfg.lev_none] at this
  omega

end Cert.Proof.Setup

end

end
-- ==== Proof.Tile.lean ====
/-
  The SparseCore kernel on one vector subcore, at a symbolic pair of SparseCore and subcore: it fetches its 512 codes,
  gathers the rows of the padded code book they name, and writes the rows out. What it leaves in its block of the output is
  the code book's rows at its codes.
-/
module

public import proofs.«01_k».proof.Proof.Setup

@[expose] public section

noncomputable section

namespace Cert.Proof.Tile

open Idealize.ShloMosaic Idealize.ShloMosaic.Tactic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen
open Cert.Proof.Point (UU)
open Cert.Proof.Setup

variable {F : FTy → Type}

local notation "𝕄" => MT nD τ sig (HIx 1) (Elt F) ℕ UU ℕ

local notation "iV" => (Memref.whole Cert.KernelIdeal.main_v11_scv : Memref Cert.KernelIdeal.sig Kind.scVector Space.hbm Cert.KernelIdeal.S16384 EltTy.i32)
local notation "bV" => (Memref.whole Cert.KernelIdeal.main_v12_scv : Memref Cert.KernelIdeal.sig Kind.scVector Space.hbm Cert.KernelIdeal.S8192x128 EltTy.f32)
local notation "oV" => (Memref.whole Cert.KernelIdeal.main_v13_scv : Memref Cert.KernelIdeal.sig Kind.scVector Space.hbm Cert.KernelIdeal.S16384x128 EltTy.f32)
local notation "sV" => (Memref.whole Cert.KernelIdeal.cc1_scratch0 : Memref Cert.KernelIdeal.sig Kind.scVector Space.vmem Cert.KernelIdeal.S512 EltTy.i32)
local notation "rV" => (Memref.whole Cert.KernelIdeal.cc1_scratch1 : Memref Cert.KernelIdeal.sig Kind.scVector Space.vmem Cert.KernelIdeal.S512x128 EltTy.f32)

abbrev iLoc (d : Dev nD) : Loc nD τ sig := (SparseCore.T d).loc main_v11
abbrev bLoc (d : Dev nD) : Loc nD τ sig := (SparseCore.T d).loc main_v12
abbrev oLoc (d : Dev nD) : Loc nD τ sig := (SparseCore.T d).loc main_v13

/-! ## The blocks -/

theorem idiv : 32 ∣ S16384.size 0 := ⟨512, rfl⟩
theorem odiv : 32 ∣ S16384x128.size 0 := ⟨512, rfl⟩
abbrev iPart (k : Fin 32) : Rect S16384 := Rect.part (s := S16384) (a₀ := 0) idiv k
abbrev oPart (k : Fin 32) : Rect S16384x128 := Rect.part (s := S16384x128) (a₀ := 0) odiv k
abbrev iSet (k : Fin 32) : Finset S16384.Idx := ((iV).view.slice (iPart k)).set
abbrev oSet (k : Fin 32) : Finset S16384x128.Idx := ((oV).view.slice (oPart k)).set

/-- Block `k`'s share of the code book, one of 32. -/
abbrev bq (k : Fin 32) : PosShare TreeShare := pieceOf fullShare 32 (by decide) k

/-- The block of subcore `i` of SparseCore `c`. -/
def blk (c : Fin 2) (i : Fin 16) : Fin 32 := ⟨2 * i.val + c.val, by omega⟩

/-! ## The rows gathered -/

/-- A row and a lane of the padded code book. -/
def cell (r : Fin 8192) (l : Fin 128) : S8192x128.Idx := fun a => match a with
  | ⟨0, _⟩ => r
  | ⟨1, _⟩ => l

/-- A place of the list of codes. -/
def place (t : Fin 16384) : S16384.Idx := fun a => match a with
  | ⟨0, _⟩ => t

/-- The code book's rows at the codes of a list (a code being taken modulo the number of rows, which changes none in range). -/
def rowsAt (codes : S16384.Idx → Elt F .i32) (book : S8192x128.Idx → Elt F .f32) : S16384x128.Idx → Elt F .f32 :=
  fun x => book (cell ⟨(codes (place (x 0))).toNat % 8192, Nat.mod_lt _ (by decide)⟩ (x 1))

variable (iv : (d : Dev nD) → Buf (Elt F) (iLoc d)) (bv : (d : Dev nD) → Buf (Elt F) (bLoc d)) (ov : (d : Dev nD) → Buf (Elt F) (oLoc d))

/-- The gathered rows, as contents of the output. -/
def gat (d : Dev nD) : Buf (Elt F) (oLoc d) := rowsAt (F := F) (iv d) (bv d)

abbrev iRowPts (d : Dev nD) (k : Fin 32) : sProp 𝕄 := iLoc d ↦[iSet k]{fullShare} iv d
abbrev bShPts (d : Dev nD) (k : Fin 32) : sProp 𝕄 := bLoc d ↦{bq k} bv d
abbrev oRowPts (d : Dev nD) (k : Fin 32) (f : Buf (Elt F) (oLoc d)) : sProp 𝕄 := oLoc d ↦[oSet k]{fullShare} f

/-! ## The views the subcore addresses -/

section Views

variable (d : Dev nD) (L : grid1.Coords)

abbrev cV (L : grid1.Coords) : Fin τ.nSC := (L 0).castLE hcore1
abbrev jV (L : grid1.Coords) : Fin τ.nSub := (L 1).castLE hsub1
theorem bound_zero : grid1.bound 0 = 2 := rfl
theorem bound_one : grid1.bound 1 = 16 := rfl
abbrev bL (L : grid1.Coords) : Fin 32 := blk (Fin.cast bound_zero (L 0)) (Fin.cast bound_one (L 1))

abbrev iRectK (L : grid1.Coords) : Rect S16384 := Rect.unit (s := S16384) (k1_off1 L) S512.size (k1_off1_inb L)
abbrev oRectK (L : grid1.Coords) : Rect S16384x128 := Rect.unit (s := S16384x128) (k1_off2 L) S512x128.size (k1_off2_inb L)
abbrev iK (L : grid1.Coords) : Memref sig .scVector .hbm S512 .i32 := (iV).slice (iRectK L) (fun _ => rfl)
abbrev oK (L : grid1.Coords) : Memref sig .scVector .hbm S512x128 .f32 := (oV).slice (oRectK L) (fun _ => rfl)
abbrev bAll : Memref sig .scVector .hbm S8192x128 .f32 := (bV).slice (Rect.unit (s := S8192x128) ![0, 0] S8192x128.size inb_S8192x128_S8192x128_0_0) (fun _ => rfl)

theorem bL_val : (bL L).val = 2 * (L 1).val + (L 0).val := rfl

theorem iRectK_eq : iRectK L = iPart (bL L) := by
  unfold iRectK iPart Rect.part Rect.block
  congr 1 <;> funext a
  · rw [k1_off1_eq]
    match a with
    | 0 => have := bL_val L; simp [Shape.partIx, Shape.partSize]; omega
  · match a with
    | 0 => simp [Shape.partSize]
theorem oRectK_eq : oRectK L = oPart (bL L) := by
  unfold oRectK oPart Rect.part Rect.block
  congr 1 <;> funext a
  · rw [k1_off2_eq]
    match a with
    | 0 => have := bL_val L; simp [Shape.partIx, Shape.partSize]; omega
    | 1 => simp [Shape.partIx, Shape.partSize]
  · match a with
    | 0 => simp [Shape.partSize]
    | 1 => simp [Shape.partSize]

theorem set_iK : (iK L).view.set = iSet (bL L) := by
  show ((iV).view.slice (iRectK L)).set = _; rw [iRectK_eq]
theorem set_oK : (oK L).view.set = oSet (bL L) := by
  show ((oV).view.slice (oRectK L)).set = _; rw [oRectK_eq]

theorem pts_iK (f : Buf (Elt F) (iLoc d)) :
    ((iK L).view.loc (V d (cV L) (jV L)) ↦[(iK L).view.set]{fullShare} f : sProp 𝕄) = iLoc d ↦[iSet (bL L)]{fullShare} f := by
  rw [set_iK]
theorem pts_oK (f : Buf (Elt F) (oLoc d)) :
    ((oK L).view.loc (V d (cV L) (jV L)) ↦[(oK L).view.set]{fullShare} f : sProp 𝕄) = oLoc d ↦[oSet (bL L)]{fullShare} f := by
  rw [set_oK]
theorem pts_bV (q : PosShare TreeShare) (f : Buf (Elt F) (bLoc d)) :
    ((bV).view.loc (V d (cV L) (jV L)) ↦{q} f : sProp 𝕄) = bLoc d ↦{q} f := rfl
theorem pts_sV (f : Buf (Elt F) ((V d (cV L) (jV L)).loc cc1_scratch0)) :
    ((sV).view.loc (V d (cV L) (jV L)) ↦{fullShare} f : sProp 𝕄) = (V d (cV L) (jV L)).loc cc1_scratch0 ↦{fullShare} f := rfl
theorem pts_rV (f : Buf (Elt F) ((V d (cV L) (jV L)).loc cc1_scratch1)) :
    ((rV).view.loc (V d (cV L) (jV L)) ↦{fullShare} f : sProp 𝕄) = (V d (cV L) (jV L)).loc cc1_scratch1 ↦{fullShare} f := rfl

/-! ## What the rows read -/

/-- What the fetch of the codes brings: code `k` of the block. -/
theorem read_iK (f : Buf (Elt F) (iLoc d)) (k : S512.Idx) :
    (iK L).view.read (Elt F) f k = f (place ⟨512 * (bL L).val + (k 0).val, by have := (bL L).isLt; have : (k 0).val < 512 := (k 0).isLt; omega⟩) := by
  rw [View.read_apply]
  refine (cast_eq _ _).trans (congrArg f ?_)
  funext a
  match a with
  | ⟨0, _⟩ =>
    refine Fin.ext ?_
    show (k1_off1 L) 0 + 1 * (k 0).val = 512 * (bL L).val + (k 0).val
    rw [k1_off1_eq]
    show 1024 * (L 1).val + 512 * (L 0).val + 1 * (k 0).val = 512 * (2 * (L 1).val + (L 0).val) + (k 0).val
    omega

/-- An index of the output block, in the output. -/
theorem emb_oK (k : S512x128.Idx) : ((oK L).view.emb k 0).val = 512 * (bL L).val + (k 0).val ∧ ((oK L).view.emb k 1).val = (k 1).val := by
  constructor
  · show (k1_off2 L) 0 + 1 * (k 0).val = 512 * (bL L).val + (k 0).val
    rw [k1_off2_eq]
    show 1024 * (L 1).val + 512 * (L 0).val + 1 * (k 0).val = 512 * (2 * (L 1).val + (L 0).val) + (k 0).val
    omega
  · show (k1_off2 L) 1 + 1 * (k 1).val = (k 1).val
    rw [k1_off2_eq]
    show 0 + 1 * (k 1).val = (k 1).val
    omega

theorem read_bAll (f : Buf (Elt F) (bLoc d)) (j : S8192x128.Idx) : bAll.view.read (Elt F) f j = f j := by
  rw [View.read_apply]
  refine (cast_eq _ _).trans (congrArg f ?_)
  funext a
  match a with
  | ⟨0, _⟩ => exact Fin.ext (show 0 + 1 * (j 0).val = (j 0).val by omega)
  | ⟨1, _⟩ => exact Fin.ext (show 0 + 1 * (j 1).val = (j 1).val by omega)

end Views

end Cert.Proof.Tile

end

end
-- ==== Proof.Task.lean ====
/-
  The SparseCore kernel's task run on one vector subcore: from its block of the codes, its share of the padded code book
  and its block of the output at anything, to the same with the code book's rows in its block of the output; what the
  launch theorem asks of a task follows.
-/
module

public import proofs.«01_k».proof.Proof.Tile

@[expose] public section

noncomputable section

namespace Cert.Proof.Task

open Idealize.ShloMosaic Idealize.ShloMosaic.Tactic
open Idealize.ShloMosaic.SparseCore (S V)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen
open Cert.Proof.Point (UU)
open Cert.Proof.Setup Cert.Proof.Tile

variable {F : FTy → Type}

local notation "𝕄" => MT nD τ sig (HIx 1) (Elt F) ℕ UU ℕ

local notation "iV" => (Memref.whole Cert.KernelIdeal.main_v11_scv : Memref Cert.KernelIdeal.sig Kind.scVector Space.hbm Cert.KernelIdeal.S16384 EltTy.i32)
local notation "bV" => (Memref.whole Cert.KernelIdeal.main_v12_scv : Memref Cert.KernelIdeal.sig Kind.scVector Space.hbm Cert.KernelIdeal.S8192x128 EltTy.f32)
local notation "oV" => (Memref.whole Cert.KernelIdeal.main_v13_scv : Memref Cert.KernelIdeal.sig Kind.scVector Space.hbm Cert.KernelIdeal.S16384x128 EltTy.f32)
local notation "sV" => (Memref.whole Cert.KernelIdeal.cc1_scratch0 : Memref Cert.KernelIdeal.sig Kind.scVector Space.vmem Cert.KernelIdeal.S512 EltTy.i32)
local notation "rV" => (Memref.whole Cert.KernelIdeal.cc1_scratch1 : Memref Cert.KernelIdeal.sig Kind.scVector Space.vmem Cert.KernelIdeal.S512x128 EltTy.f32)

variable (iv : (d : Dev nD) → Buf (Elt F) (iLoc d)) (bv : (d : Dev nD) → Buf (Elt F) (bLoc d)) (ov : (d : Dev nD) → Buf (Elt F) (oLoc d))

/-- Every code is a row of the code book. -/
def InBook : Prop := ∀ (d : Dev nD) (j : S16384.Idx), BitVec.toNat (iv d j : Elt F .i32) < 8192

section Body

variable (d : Dev nD) (L : grid1.Coords)

/-! ## The subcore's own semaphores and scratch buffers -/

/-- The three semaphores the task uses: of the gather, of the fetch, of the write-out. -/
abbrev gCell (d : Dev nD) (L : grid1.Coords) : GSem nD τ sig := (V d (cV L) (jV L), .dma cc1_scratch2.sem)
abbrev fCell (d : Dev nD) (L : grid1.Coords) : GSem nD τ sig := (V d (cV L) (jV L), .dma cc1_scoped0.sem)
abbrev wCell (d : Dev nD) (L : grid1.Coords) : GSem nD τ sig := (V d (cV L) (jV L), .dma cc1_scoped1.sem)

/-- The subcore's semaphores at zero are those three at zero and the rest. -/
theorem sems_split :
    (ownSems0 (V d (cV L) (jV L)) : sProp 𝕄)
      = iprop(semVal (gCell d L) 0 ∗ semVal (fCell d L) 0 ∗ semVal (wCell d L) 0
          ∗ bigSep ((((ownCells (V d (cV L) (jV L))).erase (gCell d L)).erase (fCell d L)).erase (wCell d L)) fun g => semVal g 0) := by
  have isOwn : ∀ s : SemLoc sig, s ∈ ([.dma cc1_scratch2.sem, .dma cc1_scoped0.sem, .dma cc1_scoped1.sem] : List (SemLoc sig)) → s.isScoped .scVector = true := by decide
  have hg : gCell d L ∈ ownCells (V d (cV L) (jV L)) := mem_ownCells.mpr ⟨rfl, isOwn _ (by simp)⟩
  have hf : fCell d L ∈ ownCells (V d (cV L) (jV L)) := mem_ownCells.mpr ⟨rfl, isOwn _ (by simp)⟩
  have hw : wCell d L ∈ ownCells (V d (cV L) (jV L)) := mem_ownCells.mpr ⟨rfl, isOwn _ (by simp)⟩
  have n1 : fCell d L ≠ gCell d L := fun h => absurd (congrArg Prod.snd h) (show (SemLoc.dma cc1_scoped0.sem : SemLoc sig) ≠ .dma cc1_scratch2.sem by decide)
  have n2 : wCell d L ≠ gCell d L := fun h => absurd (congrArg Prod.snd h) (show (SemLoc.dma cc1_scoped1.sem : SemLoc sig) ≠ .dma cc1_scratch2.sem by decide)
  have n3 : wCell d L ≠ fCell d L := fun h => absurd (congrArg Prod.snd h) (show (SemLoc.dma cc1_scoped1.sem : SemLoc sig) ≠ .dma cc1_scoped0.sem by decide)
  unfold SparseCore.Cfg.ownSems0
  rw [SparseCore.bigSep_erase' hg, SparseCore.bigSep_erase' (Finset.mem_erase.mpr ⟨n1, hf⟩),
    SparseCore.bigSep_erase' (Finset.mem_erase.mpr ⟨n3, Finset.mem_erase.mpr ⟨n2, hw⟩⟩)]

/-- The subcore's buffers are the two scratch buffers, each at something, and the rest. -/
theorem bufs_split :
    (ownBufs (V d (cV L) (jV L)) : sProp 𝕄)
      = iprop((∃ f, (V d (cV L) (jV L)).loc cc1_scratch0 ↦{fullShare} f) ∗ (∃ f, (V d (cV L) (jV L)).loc cc1_scratch1 ↦{fullShare} f)
          ∗ bigSep (((ownRefs (τ := τ) (.scVector (cV L) (jV L))).erase ((Proc.scVector (cV L) (jV L)).devRef cc1_scratch0)).erase
              ((Proc.scVector (cV L) (jV L)).devRef cc1_scratch1))
              fun b => iprop(∃ f, ((d, b) : Loc nD τ sig) ↦{fullShare} f)) := by
  have h0 : (Proc.scVector (cV L) (jV L)).devRef cc1_scratch0 ∈ ownRefs (τ := τ) (.scVector (cV L) (jV L)) := SparseCore.Cfg.mem_ownRefs_of_owner rfl
  have h1 : (Proc.scVector (cV L) (jV L)).devRef cc1_scratch1 ∈ ownRefs (τ := τ) (.scVector (cV L) (jV L)) := SparseCore.Cfg.mem_ownRefs_of_owner rfl
  have ne : (Proc.scVector (cV L) (jV L)).devRef cc1_scratch1 ≠ (Proc.scVector (cV L) (jV L)).devRef cc1_scratch0 :=
    fun e => absurd (Proc.devRef_injective _ e) (show (cc1_scratch1 : Ref sig .scVector) ≠ cc1_scratch0 by decide)
  unfold SparseCore.Cfg.ownBufs
  exact (SparseCore.bigSep_erase' h0).trans (congrArg (fun X : sProp 𝕄 => iprop(_ ∗ X)) (SparseCore.bigSep_erase' (Finset.mem_erase.mpr ⟨ne, h1⟩)))

/-! ## The values -/

/-- The codes fetched are in the book. -/
theorem fetched_inBook (hpre : InBook iv) (fs : Buf (Elt F) ((V d (cV L) (jV L)).loc cc1_scratch0)) (pay : S512.Idx → Elt F .i32)
    (hpay : pay = (iK L).view.read (Elt F) (iv d)) :
    ∀ x, ((sV).view.read (Elt F) (View.write (Elt F) (sV).view fs pay Finset.univ) x).toNat < S8192x128.size gathers_S8192x128_S512x128.axis := by
  subst hpay; intro x
  rw [View.write_whole_univ]
  simp only [Memref.view_whole, View.read_whole]
  rw [read_iK]
  exact hpre d _

/-- What the gather brings, written to the block of the output, is the rows the codes name. -/
theorem written_eq (hpre : InBook iv) (fs : Buf (Elt F) ((V d (cV L) (jV L)).loc cc1_scratch0)) (fr : Buf (Elt F) ((V d (cV L) (jV L)).loc cc1_scratch1))
    (pay : S512.Idx → Elt F .i32) (hpay : pay = (iK L).view.read (Elt F) (iv d)) (fo : Buf (Elt F) (oLoc d))
    (hn : S512.numel = S512x128.size gathers_S8192x128_S512x128.axis')
    (hin : ∀ x, ((sV).view.read (Elt F) (View.write (Elt F) (sV).view fs pay Finset.univ) x).toNat < S8192x128.size gathers_S8192x128_S512x128.axis) :
    ∀ j ∈ (oK L).view.set, (View.write (Elt F) (oK L).view fo ((rV).view.read (Elt F) ((rV).view.write (Elt F) fr
        (SparseCore.gatherPayload gathers_S8192x128_S512x128 (bAll.view.read (Elt F) (bv d))
          (SparseCore.rows ((sV).view.read (Elt F) (View.write (Elt F) (sV).view fs pay Finset.univ)) hn hin)) Finset.univ)) Finset.univ) j
      = gat iv bv d j := by
  intro j hj
  obtain ⟨k, -, rfl⟩ := Finset.mem_map.mp hj
  rw [View.write_emb_of_mem _ _ (Finset.mem_univ k)]
  refine (cast_eq _ _).trans ?_
  rw [View.write_whole_univ]
  simp only [Memref.view_whole, View.read_whole]
  unfold SparseCore.gatherPayload
  rw [read_bAll]
  unfold gat rowsAt
  refine congrArg (bv d) ?_
  obtain ⟨e0, e1⟩ := emb_oK L k
  funext a
  match a with
  | ⟨0, _⟩ =>
    refine Fin.ext ?_
    have hrow : (S512.rowMajor.symm ((k 0).cast hn.symm) 0).val = (k 0).val := by
      rw [← Shape.rowMajor_val_one (S512.rowMajor.symm ((k 0).cast hn.symm)), Equiv.apply_symm_apply]; rfl
    show BitVec.toNat (((sV).view.read (Elt F) (View.write (Elt F) (sV).view fs pay Finset.univ)) (S512.rowMajor.symm ((k 0).cast hn.symm))) = _
    subst hpay
    rw [View.write_whole_univ]
    simp only [Memref.view_whole, View.read_whole]
    rw [read_iK]
    show _ = BitVec.toNat (iv d (place ((oK L).view.emb k 0))) % 8192
    rw [Nat.mod_eq_of_lt (hpre d _)]
    refine congrArg (fun t => BitVec.toNat (iv d (place t) : Elt F .i32)) (Fin.ext ?_)
    rw [e0]
    exact congrArg (512 * (bL L).val + ·) hrow
  | ⟨1, _⟩ =>
    refine Fin.ext ?_
    exact e1.symm

/-- So the block of the output holds those rows, whatever it held. -/
theorem written_rows (hpre : InBook iv) (fs : Buf (Elt F) ((V d (cV L) (jV L)).loc cc1_scratch0)) (fr : Buf (Elt F) ((V d (cV L) (jV L)).loc cc1_scratch1))
    (fo : Buf (Elt F) (oLoc d)) (p : S512x128.Idx → Elt F .f32)
    (hn : S512.numel = S512x128.size gathers_S8192x128_S512x128.axis')
    (hin : ∀ x, ((sV).view.read (Elt F) (View.write (Elt F) (sV).view fs ((iK L).view.read (Elt F) (iv d)) Finset.univ) x).toNat < S8192x128.size gathers_S8192x128_S512x128.axis)
    (hp : p = (rV).view.read (Elt F) ((rV).view.write (Elt F) fr
        (SparseCore.gatherPayload gathers_S8192x128_S512x128 (bAll.view.read (Elt F) (bv d))
          (SparseCore.rows ((sV).view.read (Elt F) (View.write (Elt F) (sV).view fs ((iK L).view.read (Elt F) (iv d)) Finset.univ)) hn hin)) Finset.univ)) :
    ∀ j ∈ (oK L).view.set, (oK L).view.writes (Elt F) fo [⟨Rect.whole S512x128, p⟩] j = gat iv bv d j := by
  intro j hj
  rw [← written_eq iv bv d L hpre fs fr _ rfl fo hn hin j hj, ← hp]
  obtain ⟨k, -, rfl⟩ := Finset.mem_map.mp hj
  rw [View.write_emb_of_mem _ _ (Finset.mem_univ k), View.writes_singleton]
  have hk : ((oK L).view.slice (Rect.whole S512x128)).emb k = (oK L).view.emb k :=
    congrArg (oK L).view.emb (show (Rect.whole S512x128).emb k = k from funext fun a => Fin.ext (by show 0 + 1 * (k a).val = (k a).val; omega))
  rw [← hk, View.write_emb_of_mem _ _ (Finset.mem_univ k)]

/-! ## The task -/

variable [FloatOps F]

set_option maxHeartbeats 1000000 in
/-- The task's run: the codes fetched, the rows they name gathered, the rows written out. -/
theorem task_run (hF : (K (F := F)).Facts) (hpre : InBook iv) (O : CellTallies nD τ sig (HIx 1)) (W : Waits sig (HIx 1)) (hO : ∀ g, O g none = 0) :
    iprop(levAts (K (F := F)).L (K (F := F)).lev
        ∗ emp ∗ (iRowPts iv d (bL L) ∗ bShPts bv d (bL L) ∗ oRowPts d (bL L) (ov d))
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc1_k L bV (Memref.isWhole_whole _) iV (Memref.isWhole_whole _) oV (Memref.isWhole_whole _)
            sV (Memref.isWhole_whole _) rV (Memref.isWhole_whole _) cc1_scratch2 cc1_scoped0 cc1_scoped1)
          fun _ => iprop((iRowPts iv d (bL L) ∗ bShPts bv d (bL L) ∗ oRowPts d (bL L) (gat iv bv d))
            ∗ scopedBufs (V d (cV L) (jV L)) ∗ scopedSems0 (V d (cV L) (jV L))
            ∗ ∃ W', ⌜∀ p ∈ W', p ∈ W ∨ p.2 = none⌝ ∗ owes (V d (cV L) (jV L)) O W') := by
  unfold cc1_k
  rw [(K (F := F)).scopedBufs_V hF d (cV L) (jV L), SparseCore.Cfg.scopedSems0_V (Val := Elt F) d (cV L) (jV L), sems_split, bufs_split]
  iintro ⟨#Hlv, -, ⟨Hi, Hb, Ho⟩, ⟨⟨%fs, Hs⟩, ⟨%fr, Hr⟩, Hbufs⟩, ⟨Hg, Hf, Hw, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hi' := (Entails.of_eq (pts_iK (F := F) d L _).symm) $$ Hi
  ihave Ho' := (Entails.of_eq (pts_oK (F := F) d L _).symm) $$ Ho
  ihave Hb' := (Entails.of_eq (pts_bV (F := F) d L _ _).symm) $$ Hb
  ihave Hs' := (Entails.of_eq (pts_sV (F := F) d L _).symm) $$ Hs
  ihave Hr' := (Entails.of_eq (pts_rV (F := F) d L _).symm) $$ Hr
  sl_exec
  -- the gather: the task's share of the book, cut to what the stream reads; the row buffer and the fetched codes whole
  ihave Hbs := (pointsTo_split_subset (q := bq (bL L)) (f := bv d) (S := Finset.univ) (Finset.subset_univ bAll.view.set)).1 $$ Hb'
  icases Hbs with ⟨Hbs, Hbr⟩
  have hrs : (rV).view.set = Finset.univ := View.set_whole _
  have hss : (sV).view.set = Finset.univ := View.set_whole _
  ihave Hr2 := (Entails.of_eq (show ((rV).view.loc (V d (cV L) (jV L)) ↦{fullShare} fr : sProp 𝕄)
      = (rV).view.loc (V d (cV L) (jV L)) ↦[(rV).view.set]{fullShare} fr by rw [hrs])) $$ Hr'
  ihave Hs2 := (Entails.of_eq (show ((sV).view.loc (V d (cV L) (jV L)) ↦{fullShare} View.write (Elt F) (sV).view fs (task_run.sl.dma0 iv d L) Finset.univ : sProp 𝕄)
      = (sV).view.loc (V d (cV L) (jV L)) ↦[(sV).view.set]{fullShare} View.write (Elt F) (sV).view fs (task_run.sl.dma0 iv d L) Finset.univ
      by rw [hss])) $$ Hs'
  have hN : ∀ h : S8192x128.Gathers 0 S512x128, ∑ j, ((rV).slice (S512x128.rowRect h.axis' j) (S512x128.stride_rowRect h.axis' j)).view.dmaCredit
      = (rV).view.dmaCredit := by decide +kernel
  iapply (SparseCore.wp_indirectGatherLocal countersEmb 𝒱₀ (V d (cV L) (jV L)) none (hg := gathers_S8192x128_S512x128) (default : HIx 1)
      (rV).view.dmaCredit (hN _) (by decide) (fetched_inBook iv d L hpre fs _ rfl)) $$ [Hbs Hr2 Hs2 Hg]
  · isplitl [Hbs]; · iexact Hbs
    isplitl [Hr2]; · iexact Hr2
    isplitl [Hs2]; · iexact Hs2
    iexact Hg
  iintro Hfl
  sl_exec
  -- its wait gives the row buffer written with the book's rows, the share of the book and the codes back
  iapply (Transfers.wp_waitLocalO countersEmb 𝒱₀ (V d (cV L) (jV L)) none (default : HIx 1) (rfl : (rV).view.dmaCredit = _)) $$ [Hfl HO]
  · isplitl [Hfl]; · iexact Hfl
    isplitl [HO]; · iexact HO
    iapply (Transfers.MayWaits.elim (SemLoc.dma cc1_scratch2.sem)) $$ Hmw
  iintro ⟨⟨Hr', Hbs, Hs'⟩, Hg, HO⟩
  ihave Hb' := (pointsTo_split_subset (q := bq (bL L)) (f := bv d) (S := Finset.univ) (Finset.subset_univ bAll.view.set)).2 $$ [Hbs Hbr]
  · isplitl [Hbs] <;> iassumption
  ihave Hr3 := (Entails.of_eq (show ((rV).view.loc (V d (cV L) (jV L)) ↦[(rV).view.set]{fullShare} _ : sProp 𝕄)
      = (rV).view.loc (V d (cV L) (jV L)) ↦{fullShare} _ by rw [hrs])) $$ Hr'
  ihave Hs3 := (Entails.of_eq (show ((sV).view.loc (V d (cV L) (jV L)) ↦[(sV).view.set]{fullShare} _ : sProp 𝕄)
      = (sV).view.loc (V d (cV L) (jV L)) ↦{fullShare} _ by rw [hss])) $$ Hs'
  sl_exec
  sl_step
  isplitl [Hi' Hb' Ho']
  · isplitl [Hi']; · iapply (Entails.of_eq (pts_iK (F := F) d L _)); iexact Hi'
    isplitl [Hb']; · iexact Hb'
    ihave Ho2 := (Entails.of_eq (pointsTo_congr (written_rows iv bv d L hpre fs fr (ov d) (task_run.sl.dma0_1 iv bv d L hpre fs fr) _ _ rfl))) $$ Ho'
    iapply (Entails.of_eq (pts_oK (F := F) d L _)); iexact Ho2
  isplitl [Hs3 Hr3 Hbufs]
  · isplitl [Hs3]; · iexists _; iexact Hs3
    isplitl [Hr3]; · iexists _; iexact Hr3
    iexact Hbufs
  isplitl [Hg Hf Hw Hsems]
  · isplitl [Hg]; · iexact Hg
    isplitl [Hf]; · iexact Hf
    isplitl [Hw]; · iexact Hw
    iexact Hsems
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact .inl hp

end Body

/-! ## What the launch asks of the task -/

variable [FloatOps F]

/-- The grid point of a SparseCore and one of its subcores. -/
def point (c : Fin (grid1.bound 0)) (s : Fin (grid1.bound 1)) : grid1.Coords :=
  fun | 0 => c | 1 => s | ⟨_ + 2, h⟩ => absurd h (Nat.not_lt.2 (Nat.le_add_left _ _))

/-- The kernel on a vector subcore is the task at that subcore's grid point. -/
theorem defs₀_subcore (c : Fin τ.nSC) (s : Fin τ.nSub) :
    defs₀ (F := F) (.scVector c s) 1 ()
      = SparseCore.onTile hcore1 hsub1 (fun c s => cc1_k (point c s)
          bV (Memref.isWhole_whole _) iV (Memref.isWhole_whole _) oV (Memref.isWhole_whole _)
          sV (Memref.isWhole_whole _) rV (Memref.isWhole_whole _) cc1_scratch2 cc1_scoped0 cc1_scoped1) ⟨⟩ c s := rfl

omit [FloatOps F] in
/-- The waits recorded by the task are among those the launch allows. -/
theorem waits_weaken {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- What the calls' messages carry: to a subcore its block of the codes, its share of the code book and its block of the
    output; back from it the same with the rows in the output. A SparseCore's sequencer passes on what its subcores get. -/
def pay : Pay (K (F := F)) (nD := nD) (Val := Elt F) (Name := ℕ) (U := UU) where
  st q d c := match q with
    | 0 => bigSep Finset.univ fun i : Fin ((K (F := F)).nSub 0) =>
        iprop(iRowPts iv d (blk c i) ∗ bShPts bv d (blk c i) ∗ oRowPts d (blk c i) (ov d))
  dn q d c := match q with
    | 0 => bigSep Finset.univ fun i : Fin ((K (F := F)).nSub 0) =>
        iprop(iRowPts iv d (blk c i) ∗ bShPts bv d (blk c i) ∗ oRowPts d (blk c i) (gat iv bv d))
  go q d c i := match q with
    | 0 => iprop(iRowPts iv d (blk c i) ∗ bShPts bv d (blk c i) ∗ oRowPts d (blk c i) (ov d))
  td q d c i := match q with
    | 0 => iprop(iRowPts iv d (blk c i) ∗ bShPts bv d (blk c i) ∗ oRowPts d (blk c i) (gat iv bv d))
  x := fun _ _ => iprop(emp)

end Cert.Proof.Task

end
-- ==== Proof.Split.lean ====
/-
  What the SparseCore call takes and gives: the codes, the padded code book and the output whole are what its 32 subcores
  get of them together, and each subcore's task meets what the launch asks of it.
-/
module

public import proofs.«01_k».proof.Proof.Task

@[expose] public section

noncomputable section

namespace Cert.Proof.Split

open Idealize.ShloMosaic Idealize.ShloMosaic.Tactic
open Idealize.ShloMosaic.SparseCore (S V)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen
open Cert.Proof.Point (UU)
open Cert.Proof.Setup Cert.Proof.Tile Cert.Proof.Task

variable {F : FTy → Type}

local notation "𝕄" => MT nD τ sig (HIx 1) (Elt F) ℕ UU ℕ

/-! ## The blocks -/

theorem iSet_eq (k : Fin 32) : iSet k = (iPart k).set := by
  show ((View.whole (main_v11_scv : Ref sig .scVector)).slice (iPart k)).set = _
  rw [View.set_slice]; exact Finset.map_refl
theorem oSet_eq (k : Fin 32) : oSet k = (oPart k).set := by
  show ((View.whole (main_v13_scv : Ref sig .scVector)).slice (oPart k)).set = _
  rw [View.set_slice]; exact Finset.map_refl

/-- The codes whole are their 32 blocks, -/
theorem codes_blocks (d : Dev nD) (f : Buf (Elt F) (iLoc d)) :
    (iLoc d ↦{fullShare} f : sProp 𝕄) = bigSep Finset.univ fun k : Fin 32 => iLoc d ↦[iSet k]{fullShare} f := by
  rw [← pointsTo_biUnion Finset.univ (ℓ := iLoc d) iSet fun j _ k _ h => by rw [iSet_eq, iSet_eq]; exact Rect.part_disjoint idiv h]
  rw [show (Finset.univ : Finset (Fin 32)).biUnion iSet = Finset.univ from
    (Finset.biUnion_congr rfl fun k _ => iSet_eq k).trans (Rect.biUnion_part idiv)]
/-- the output whole its 32 blocks, -/
theorem output_blocks (d : Dev nD) (f : Buf (Elt F) (oLoc d)) :
    (oLoc d ↦{fullShare} f : sProp 𝕄) = bigSep Finset.univ fun k : Fin 32 => oLoc d ↦[oSet k]{fullShare} f := by
  rw [← pointsTo_biUnion Finset.univ (ℓ := oLoc d) oSet fun j _ k _ h => by rw [oSet_eq, oSet_eq]; exact Rect.part_disjoint odiv h]
  rw [show (Finset.univ : Finset (Fin 32)).biUnion oSet = Finset.univ from
    (Finset.biUnion_congr rfl fun k _ => oSet_eq k).trans (Rect.biUnion_part odiv)]
/-- and the code book whole its 32 shares. -/
theorem book_shares (d : Dev nD) (f : Buf (Elt F) (bLoc d)) :
    (bLoc d ↦{fullShare} f : sProp 𝕄) = bigSep Finset.univ fun k : Fin 32 => bLoc d ↦{bq k} f :=
  pointsTo_piecesOf Finset.univ f (by decide) fullShare

/-- Over the 32 blocks is over the SparseCores and the subcores of each. -/
theorem over_subcores (Φ : Fin 32 → sProp 𝕄) :
    bigSep Finset.univ Φ = bigSep Finset.univ fun c : Fin 2 => bigSep Finset.univ fun i : Fin 16 => Φ (blk c i) := by
  rw [bigSep_univ_equiv ((Equiv.prodComm (Fin 2) (Fin 16)).trans (finProdFinEquiv (m := 16) (n := 2))) Φ, bigSep_univ_prod]
  refine bigSep_congr fun c _ => bigSep_congr fun i _ => congrArg Φ (Fin.ext ?_)
  show c.val + 2 * i.val = 2 * i.val + c.val
  omega

/-- The three arrays whole are what the subcores get of them together. -/
theorem whole_eq (iv : (d : Dev nD) → Buf (Elt F) (iLoc d)) (bv : (d : Dev nD) → Buf (Elt F) (bLoc d)) (d : Dev nD) (f : Buf (Elt F) (oLoc d)) :
    (iprop((iLoc d ↦{fullShare} iv d) ∗ (bLoc d ↦{fullShare} bv d) ∗ oLoc d ↦{fullShare} f) : sProp 𝕄)
      = bigSep Finset.univ fun c : Fin 2 => bigSep Finset.univ fun i : Fin 16 =>
          iprop(iRowPts iv d (blk c i) ∗ bShPts bv d (blk c i) ∗ oRowPts d (blk c i) f) := by
  rw [← over_subcores (F := F) (fun k => iprop(iRowPts iv d k ∗ bShPts bv d k ∗ oRowPts d k f)), bigSep_sep', bigSep_sep',
    codes_blocks, output_blocks, book_shares]

variable (iv : (d : Dev nD) → Buf (Elt F) (iLoc d)) (bv : (d : Dev nD) → Buf (Elt F) (bLoc d)) (ov : (d : Dev nD) → Buf (Elt F) (oLoc d))

/-- What the call takes, -/
theorem taken (d : Dev nD) :
    (bigSep Finset.univ fun c : Fin ((K (F := F)).nCore 0) => (pay iv bv ov).st 0 d c)
      = iprop((iLoc d ↦{fullShare} iv d) ∗ (bLoc d ↦{fullShare} bv d) ∗ oLoc d ↦{fullShare} ov d) :=
  (whole_eq iv bv d (ov d)).symm
/-- and what it gives back. -/
theorem given (d : Dev nD) :
    (bigSep Finset.univ fun c : Fin ((K (F := F)).nCore 0) => (pay iv bv ov).dn 0 d c)
      = iprop((iLoc d ↦{fullShare} iv d) ∗ (bLoc d ↦{fullShare} bv d) ∗ oLoc d ↦{fullShare} gat iv bv d) :=
  (whole_eq iv bv d (gat iv bv d)).symm

/-- The messages can be stored in the handshakes' invariants. -/
instance pay_storable : (pay (F := F) iv bv ov).IsStorable where
  st q d c := match q with
    | 0 => (inferInstance : BI.Storable (upEmb : UEmb _ 𝕄) (bigSep Finset.univ fun i : Fin 16 =>
        iprop(iRowPts iv d (blk c i) ∗ bShPts bv d (blk c i) ∗ oRowPts d (blk c i) (ov d))))
  dn q d c := match q with
    | 0 => (inferInstance : BI.Storable (upEmb : UEmb _ 𝕄) (bigSep Finset.univ fun i : Fin 16 =>
        iprop(iRowPts iv d (blk c i) ∗ bShPts bv d (blk c i) ∗ oRowPts d (blk c i) (gat iv bv d))))
  go q d c i := match q with
    | 0 => (inferInstance : BI.Storable (upEmb : UEmb _ 𝕄) iprop(iRowPts iv d (blk c i) ∗ bShPts bv d (blk c i) ∗ oRowPts d (blk c i) (ov d)))
  td q d c i := match q with
    | 0 => (inferInstance : BI.Storable (upEmb : UEmb _ 𝕄) iprop(iRowPts iv d (blk c i) ∗ bShPts bv d (blk c i) ∗ oRowPts d (blk c i) (gat iv bv d)))

/-- A SparseCore's sequencer has just what its subcores get, and gives back what they do. -/
theorem vecSplit : (K (F := F)).VecSplit' (pay iv bv ov) 0 := by
  intro d c
  show (pay iv bv ov).st 0 d c ⊢ |={Set.univ}=> iprop((pay iv bv ov).st 0 d c ∗ ((pay iv bv ov).dn 0 d c -∗ (pay iv bv ov).dn 0 d c))
  iintro H; imodintro
  isplitl [H]; · iexact H
  iintro H; iexact H

variable [FloatOps F]

set_option maxRecDepth 16384 in
/-- Every subcore's task meets what the launch asks of it. -/
theorem tileObl (hpre : InBook iv) : (K (F := F)).TileObl (D (F := F)) 𝒱 (pay iv bv ov) v₀ 0 := by
  intro d c i O W hO _ _
  simp only [show (pay (F := F) iv bv ov).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_subcore]; simp only [SparseCore.onTile, hci, and_self, ↓reduceDIte]
  exact (task_run iv bv ov d (point ⟨_, hci.1⟩ ⟨_, hci.2⟩) facts hpre O W hO).trans (wp_mono frame _ _ fun _ => waits_weaken)

end Cert.Proof.Split

end
-- ==== Proof.Region.lean ====
/-
  The TensorCore kernel's region: what its windows hold at each grid point, that the body takes each point's windows to
  what is stated of them, and the region from the buffers' contents at its entry to those at its exit. The core owes the
  SparseCore launch's signals all along; the region neither pays nor adds any of them.
-/
module

public import proofs.«01_k».proof.Proof.Setup

@[expose] public section

noncomputable section

namespace Cert.Proof.Region

open Idealize.ShloMosaic Idealize.ShloMosaic.Tactic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation arrRef)
open Cert.KernelIdeal Cert.KernelIdeal.Gen
open Cert.Proof.Point Cert.Proof.Setup

variable {F : FTy → Type} [FloatOps F] [∀ e, Nonempty (Elt F e)]

local notation "𝕄" => MT nD τ sig (HIx 1) (Elt F) ℕ UU ℕ

/-- The contents of one device's buffers. -/
abbrev Vals (F : FTy → Type) := Valuation τ sig (Elt F)

/-- What window `w`'s array holds at the region's entry. -/
abbrev arr (v : Vals F) (c : Dev nD) (w : Fin cfg0.W) : Buf (Elt F) ((cfg0.win w).arr.view.loc (c.tc : Thread nD τ)) :=
  v (Proc.devRef .tc (arrRef spec0 w))

/-- What is fetched of it for point `t`. -/
def blockAt (v : Vals F) (c : Dev nD) (w : Fin cfg0.W) (t : Fin cfg0.N) : (cfg0.win w).block.Idx → Elt F (cfg0.win w).elt :=
  (cfg0.win w).fill (cfg0.grid.coords t) (fun _ => Classical.arbitrary _) (((cfg0.win w).blk t).view.read (Elt F) (arr v c w))

/-- The codes point `t` writes, -/
def codesAt (v : Vals F) (c : Dev nD) (t : Fin cfg0.N) : S1x1x4096.Idx → Elt F .i32 :=
  codesOf (blockAt v c 0 t) (blockAt v c 1 t) (blockAt v c 2 t) (blockAt v c 3 t)

/-- and the loss after point `n`. -/
def lossAt (v : Vals F) (c : Dev nD) : (n : ℕ) → n < cfg0.N → S1x1.Idx → Elt F .f32
  | 0, h => lossOf (blockAt v c 0 ⟨0, h⟩) (blockAt v c 1 ⟨0, h⟩) (blockAt v c 2 ⟨0, h⟩) (blockAt v c 3 ⟨0, h⟩) noLoss
  | n + 1, h => lossOf (blockAt v c 0 ⟨n + 1, h⟩) (blockAt v c 1 ⟨n + 1, h⟩) (blockAt v c 2 ⟨n + 1, h⟩) (blockAt v c 3 ⟨n + 1, h⟩)
      (lossAt v c n (Nat.lt_of_succ_lt h))

/-- The waits recorded so far are at no call's stages. -/
abbrev idleWaits (c : Dev nD) : Set (SemLoc sig × HIx 1) := {p | (K (F := F)).lev (T c, p.1) p.2 ≤ 8 * (SparseCore.Cfg.Blocks.fst (Q := 1) (N := 1) 0)}

/-- The region's proof data, from the buffers' contents at its entry. -/
def dats (v : Dev nD → Vals F) (_ : Fin 1) (c : Dev nD) : Dat τ (Elt F) (HIx 1) ℕ UU ℕ cfg0 c where
  A w := arr (v c) c w
  after w t := match w with
    | ⟨0, _⟩ => blockAt (v c) c 0 t
    | ⟨1, _⟩ => blockAt (v c) c 1 t
    | ⟨2, _⟩ => blockAt (v c) c 2 t
    | ⟨3, _⟩ => blockAt (v c) c 3 t
    | ⟨4, _⟩ => codesAt (v c) c t
    | ⟨5, _⟩ => lossAt (v c) c t.val t.isLt
  Φ _ := iprop(emp)
  q _ := fullShare
  owed _ := (K (F := F)).Otc c 0
  recorded _ := idleWaits (F := F) c

variable (v : Dev nD → Vals F)

theorem after0 (c : Dev nD) (t : Fin cfg0.N) : (dats v 0 c).after 0 t = blockAt (v c) c 0 t := by dsimp only [dats]
theorem after1 (c : Dev nD) (t : Fin cfg0.N) : (dats v 0 c).after 1 t = blockAt (v c) c 1 t := by dsimp only [dats]
theorem after2 (c : Dev nD) (t : Fin cfg0.N) : (dats v 0 c).after 2 t = blockAt (v c) c 2 t := by dsimp only [dats]
theorem after3 (c : Dev nD) (t : Fin cfg0.N) : (dats v 0 c).after 3 t = blockAt (v c) c 3 t := by dsimp only [dats]
theorem after4 (c : Dev nD) (t : Fin cfg0.N) : (dats v 0 c).after 4 t = codesAt (v c) c t := by dsimp only [dats]
theorem after5 (c : Dev nD) (t : Fin cfg0.N) : (dats v 0 c).after 5 t = lossAt (v c) c t.val t.isLt := by dsimp only [dats]

theorem A_eq (c : Dev nD) (w : Fin cfg0.W) : (dats v 0 c).A w = arr (v c) c w := by dsimp only [dats]

theorem share_eq (c : Dev nD) (w : Fin cfg0.W) : (dats v 0 c).share w = fullShare := by
  unfold Dat.share; dsimp only [dats]; exact ite_self _

/-- No window is cut. -/
theorem uncut (w : Fin cfg0.W) (i : cfg0.grid.Coords) : ∀ a, (cfg0.win w).clip i a = none := by
  intro a; revert i; revert a; revert w; decide

/-- Before its point an input window holds what is fetched for the point. -/
theorem before_in (c : Dev nD) (w : Fin cfg0.W) (hw : (cfg0.win w).isOut = false)
    (hafter : ∀ t, (dats v 0 c).after w t = blockAt (v c) c w t) (t : Fin cfg0.N) (d) :
    (dats v 0 c).before w t d = blockAt (v c) c w t := by
  rw [(dats v 0 c).before_in_eq_fetched w hw (fun _ => rfl) (fun t t' _ => by funext a; rw [uncut, uncut]) (fun t => by
    rw [hafter]; unfold blockAt Dat.blockOf; rw [A_eq]; exact Pipeline.Window.cut_fill _ _ _ _) t d]
  unfold Dat.fetched Dat.blockOf blockAt
  rw [A_eq]
  exact Pipeline.fill_of_clip_none _ _ (uncut w _) _ _ _

theorem cond_iff : ∀ t : Fin cfg0.N, Scan.atFirst (grid0.coords t) = 1#1 ↔ t.val = 0 := by decide

/-- The loss the point adds to. -/
theorem loss_step (c : Dev nD) (t : Fin cfg0.N) (d) :
    lossOf (blockAt (v c) c 0 t) (blockAt (v c) c 1 t) (blockAt (v c) c 2 t) (blockAt (v c) c 3 t)
        (if Scan.atFirst (grid0.coords t) = 1#1 then noLoss else (dats v 0 c).before 5 t d)
      = lossAt (v c) c t.val t.isLt := by
  obtain ⟨n, hn⟩ := t
  cases n with
  | zero => rw [if_pos ((cond_iff _).mpr rfl)]; rfl
  | succ n =>
    rw [if_neg (fun h => absurd ((cond_iff _).mp h) (Nat.succ_ne_zero n)),
      (dats v 0 c).before_out_kept 5 rfl ⟨n + 1, hn⟩ (Nat.succ_ne_zero n) (by
        have h4 : n + 1 < 4 := by have := hn; rwa [show cfg0.N = 4 from N_0] at this
        have := flush0_5 ⟨n, Nat.lt_of_succ_lt hn⟩
        refine Bool.eq_false_iff.mpr fun h => ?_
        have := this.mp h
        simp only at this; omega) (fun _ => rfl) (uncut 5), after5]
    rfl

theorem body_obligation (c : Dev nD) : BodyObligation (dats v 0 c) (defs₀ (F := F)) 𝒱₀ (none : HIx 1) Set.univ := fun t => by
  rw [bigSep_W0, bigSep_W0]
  show iprop(iprop(emp) ∗ (dats v 0 c).owesAt none t.castSucc ∗ _) ⊢ wp frame (wpE (defs₀ (F := F)) 𝒱₀ c.tc none) Set.univ (bodyAt0 t)
    (fun _ => iprop(iprop(emp) ∗ (dats v 0 c).owesAt none t.castSucc ∗ _))
  unfold bodyAt0
  rw [← Scan.body_eq]
  iintro ⟨-, HO, ⟨%d0, H0⟩, ⟨%d1, H1⟩, ⟨%d2, H2⟩, ⟨%d3, H3⟩, ⟨%d4, H4⟩, ⟨%d5, H5⟩⟩
  dsimp only
  rw [before_in v c 0 rfl (after0 v c), before_in v c 1 rfl (after1 v c), before_in v c 2 rfl (after2 v c), before_in v c 3 rfl (after3 v c)]
  iapply (point_run c (grid0.coords t) _ _ _ _ _ _ (blockAt (v c) c 0 t) (blockAt (v c) c 1 t) (blockAt (v c) c 2 t) (blockAt (v c) c 3 t)
    ((dats v 0 c).before 4 t d4) ((dats v 0 c).before 5 t d5) _)
  isplitl [H0]; · iexact H0
  isplitl [H1]; · iexact H1
  isplitl [H2]; · iexact H2
  isplitl [H3]; · iexact H3
  isplitl [H4]; · iexact H4
  isplitl [H5]; · iexact H5
  rw [loss_step, after0, after1, after2, after3, after4, after5]
  iintro ⟨H0, H1, H2, H3, H4, H5⟩
  isplitr; · iempintro
  isplitl [HO]; · iexact HO
  isplitl [H0]; · iexact H0
  isplitl [H1]; · iexact H1
  isplitl [H2]; · iexact H2
  isplitl [H3]; · iexact H3
  isplitl [H4]; · iexact H4
  iexact H5

/-- The buffers at the region's exit. -/
abbrev out (c : Dev nD) : Vals F := Pipeline.afterRegion (dats v 0 c) (v c)

/-- The core owing its launch signals, its recorded waits at no call's stages. -/
def owing (c : Dev nD) : sProp 𝕄 := iprop(∃ W, ⌜(K (F := F)).WBelow (T c) W (8 * (SparseCore.Cfg.Blocks.fst (Q := 1) (N := 1) 0))⌝ ∗ owes (T c) ((K (F := F)).Otc c 0) W)

/-- The region: from the buffers at `v` and the core owing its launch signals, to the buffers at `out v` and the same owing. -/
def reg0 : Pipeline.RegionSeg pcfgs adm (dats v) (none : HIx 1) (defs₀ (F := F)) 𝒱₀ (K (F := F)).L (K (F := F)).lev 0 where
  win := launch0.win.to₀
  block_pos := launch0.block_pos
  stage_whole := launch0.stage_whole
  K := PEmpty
  osem := fun k => k.elim
  ho := Pipeline.OwnSemFacts.none _
  hbody c := (body_obligation v c).loose
  hwaits c := Pipeline.cellsWaits_intro _ _ _ _ _ fun w s t => (K (F := F)).mayWait_none _ (Otc_none c 0)
  pre c := iprop(StableHlo.held (c.tc : Thread nD τ) (Pipeline.ucRefs τ sig) (v c) ∗ owing (F := F) c)
  post c := iprop(StableHlo.held (c.tc : Thread nD τ) (Pipeline.ucRefs τ sig) (out v c) ∗ owing (F := F) c)
  X _ := iprop(emp)
  Y _ := iprop(emp)
  Z c := Pipeline.unscopedRest spec0 c (fun b => v c (Proc.devRef .tc b))
  hentry c := by
    rw [Pipeline.ownSems0_none, ← Pipeline.unscopedBufs_held (Ix := HIx 1) (Name := ℕ) (U := UU) (Lvl := ℕ) c (v c)]
    have hsplit := Pipeline.arrays_of_unscopedBufs (p := 0) pcfgs adm (dats v) launch0.win launch0.arr_whole c (share_eq v c)
      (fun b => v c (Proc.devRef .tc b)) (fun w => A_eq v c w)
    iintro ⟨⟨Hub, HO⟩, -, -⟩
    ihave H := hsplit $$ Hub
    icases H with ⟨Ha, Hrest⟩
    imodintro
    isplitl [Ha]; · iexact Ha
    isplitr
    · unfold Pipeline.prefHeld
      iapply (show (BI.emp : sProp 𝕄) ⊢ bigSep (Finset.univ : Finset (Fin 0)) _ from by
        rw [show (Finset.univ : Finset (Fin 0)) = ∅ from rfl, BI.bigSep_empty])
      iempintro
    isplitl [HO]
    · unfold Dat.owesAt Pipeline.owesWithin owing
      icases HO with ⟨%W, %hW, HO⟩
      iexists W; isplitr
      · ipureintro; exact fun p hp => Or.inl (hW p hp)
      iexact HO
    isplitr; · iempintro
    iexact Hrest
  hin c := by
    show _ ⊢ (iprop(emp) : sProp 𝕄)
    iintro -; iempintro
  hout c := by
    rw [Pipeline.ownSems0_none, scopedRest0_eq]
    show (iprop(emp) : sProp 𝕄) ⊢ _
    iintro -
    isplitr; · iempintro
    isplitr <;> iempintro
  hexit c := by
    have hjoin := Pipeline.unscopedBufs_of_arrays (p := 0) pcfgs adm (Ix := HIx 1) (Name := ℕ) (U := UU) (Lvl := ℕ)
      launch0.win launch0.arr_whole c (dats v) (share_eq v c)
      (fun b => v c (Proc.devRef .tc b)) (fun b => out v c (Proc.devRef .tc b)) ((dats v 0 c).arrAt · cfg0.N)
      (fun w => (Pipeline.afterRegion_arr (dats v 0 c) (v c) launch0.win.arr_inj w).symm)
      (fun b hb => Pipeline.afterRegion_of_not_arr (dats v 0 c) (v c)
        fun w h => hb (h ▸ Finset.mem_image.mpr ⟨w, Finset.mem_univ _, rfl⟩))
    rw [← Pipeline.unscopedBufs_held (Ix := HIx 1) (Name := ℕ) (U := UU) (Lvl := ℕ) c (out v c)]
    iintro ⟨Ha, HO, -, Hrest⟩
    imodintro
    isplitl [Ha Hrest]
    · iapply hjoin; isplitl [Ha] <;> iassumption
    unfold Dat.owesAt Pipeline.owesWithin owing
    icases HO with ⟨%W, %hW, HO⟩
    iexists W; isplitr
    · ipureintro
      intro p hp
      rcases hW hp with h | h
      · exact h
      · obtain ⟨w, s, rfl⟩ := h
        exact Nat.zero_le _
    iexact HO

end Cert.Proof.Region

end

end
-- ==== Proof.Host.lean ====
/-
  The kernel's host operations, in three lines: before the TensorCore kernel, between it and the SparseCore kernel, and
  after that; @main is the three lines with the two kernels between them.
-/
module

public import proofs.«01_k».proof.Proof.Task
public import proofs.«01_k».proof.Proof.Region

@[expose] public section

noncomputable section

namespace Cert.Proof.Host

open Idealize.ShloMosaic Idealize.ShloMosaic.Tactic
open Idealize.SL Idealize.SL.Sem
open Cert.KernelIdeal Cert.KernelIdeal.Gen
open Cert.Proof.Setup

variable {F : FTy → Type} [FloatOps F]

/-- The squared norms of the tokens and of the codes, and the operands of the products. -/
def before : List (HloOp τ sig (Elt F)) :=
  [ StableHlo.binary main_arg0 main_arg0 main_v0 (mulf : (⟨S16384x64, .f32⟩ : BufTy).Contents (Elt F) → (⟨S16384x64, .f32⟩ : BufTy).Contents (Elt F) → (⟨S16384x64, .f32⟩ : BufTy).Contents (Elt F)),
    StableHlo.nullary main_cst (constant S_ .f32 0x00000000#32),
    StableHlo.binary main_v0 main_cst main_v1 ((fun x v => Host.reduceAdd x v reducesTo_S16384x64_S16384_d1 h_S_) : (⟨S16384x64, .f32⟩ : BufTy).Contents (Elt F) → (⟨S_, .f32⟩ : BufTy).Contents (Elt F) → (⟨S16384, .f32⟩ : BufTy).Contents (Elt F)),
    StableHlo.reshape main_v1 main_v2 (rfl : (.f32 : EltTy) = .f32) shapeCasts_S16384_S4x1x4096,
    StableHlo.binary main_arg2 main_arg2 main_v3 (mulf : (⟨S8192x64, .f32⟩ : BufTy).Contents (Elt F) → (⟨S8192x64, .f32⟩ : BufTy).Contents (Elt F) → (⟨S8192x64, .f32⟩ : BufTy).Contents (Elt F)),
    StableHlo.nullary main_cst_0 (constant S_ .f32 0x00000000#32),
    StableHlo.binary main_v3 main_cst_0 main_v4 ((fun x v => Host.reduceAdd x v reducesTo_S8192x64_S8192_d1 h_S_) : (⟨S8192x64, .f32⟩ : BufTy).Contents (Elt F) → (⟨S_, .f32⟩ : BufTy).Contents (Elt F) → (⟨S8192, .f32⟩ : BufTy).Contents (Elt F)),
    StableHlo.reshape main_v4 main_v5 (rfl : (.f32 : EltTy) = .f32) shapeCasts_S8192_S8192x1,
    StableHlo.unary main_arg0 main_v6 ((truncf .bf16 · bitsLt_bf16_f32) : (⟨S16384x64, .f32⟩ : BufTy).Contents (Elt F) → (⟨S16384x64, .bf16⟩ : BufTy).Contents (Elt F)),
    StableHlo.nullary main_cst_1 (constant S_ .f32 0xC0000000#32),
    StableHlo.unary main_cst_1 main_v7 (broadcastInDim S8192x64 ![] bcast_S_S8192x64 : (⟨S_, .f32⟩ : BufTy).Contents (Elt F) → (⟨S8192x64, .f32⟩ : BufTy).Contents (Elt F)),
    StableHlo.binary main_v7 main_arg2 main_v8 (mulf : (⟨S8192x64, .f32⟩ : BufTy).Contents (Elt F) → (⟨S8192x64, .f32⟩ : BufTy).Contents (Elt F) → (⟨S8192x64, .f32⟩ : BufTy).Contents (Elt F)),
    StableHlo.unary main_v8 main_v9 ((truncf .bf16 · bitsLt_bf16_f32) : (⟨S8192x64, .f32⟩ : BufTy).Contents (Elt F) → (⟨S8192x64, .bf16⟩ : BufTy).Contents (Elt F)) ]

/-- The codes as one list, and the code book padded to 128 columns. -/
def between : List (HloOp τ sig (Elt F)) :=
  [ StableHlo.reshape main_v10_0 main_v11 (rfl : (.i32 : EltTy) = .i32) shapeCasts_S4x1x4096_S16384,
    StableHlo.nullary main_c (constantI S_ 32 0#32),
    StableHlo.TRef.unary (.of main_c : StableHlo.TRef sig ⟨S_, .i32⟩) main_call0.v0 (sitofp .f32),
    StableHlo.TRef.binary (.of main_arg2 : StableHlo.TRef sig ⟨S8192x64, .f32⟩) main_call0.v0 main_call0.v1 (fun x v => pad S8192x128 ![0, 0] ![0, 64] ![0, 0] x v pads_S8192x64_S8192x128_000_0640 h_S_) ]

/-- The first 64 columns of the gathered rows, and the loss. -/
def after : List (HloOp τ sig (Elt F)) :=
  [ StableHlo.unary main_v13 main_v14 ((extractStridedSlice S16384x64 ![0, 0] · slices_S16384x128_S16384x64_0_0) : (⟨S16384x128, .f32⟩ : BufTy).Contents (Elt F) → (⟨S16384x64, .f32⟩ : BufTy).Contents (Elt F)),
    StableHlo.reshape main_v10_1 main_v15 (rfl : (.f32 : EltTy) = .f32) shapeCasts_S1x1_S_,
    StableHlo.nullary main_cst_2 (constant S_ .f32 0x35A00000#32),
    StableHlo.binary main_v15 main_cst_2 main_v16 (mulf : (⟨S_, .f32⟩ : BufTy).Contents (Elt F) → (⟨S_, .f32⟩ : BufTy).Contents (Elt F) → (⟨S_, .f32⟩ : BufTy).Contents (Elt F)) ]

theorem before_bufs : (before (F := F)).Forall fun op => op.bufs ⊆ StableHlo.tcRefs τ sig := by
  simp only [before, List.Forall, StableHlo.binary_bufs_sub, StableHlo.nullary_bufs_sub, StableHlo.reshape_bufs_sub, StableHlo.unary_bufs_sub, and_self]
theorem between_bufs : (between (F := F)).Forall fun op => op.bufs ⊆ StableHlo.tcRefs τ sig :=
  ⟨StableHlo.reshape_bufs_sub .., StableHlo.nullary_bufs_sub .., StableHlo.unary_bufs_sub .., StableHlo.binary_bufs_sub ..⟩
theorem after_bufs : (after (F := F)).Forall fun op => op.bufs ⊆ StableHlo.tcRefs τ sig := by
  simp only [after, List.Forall, StableHlo.binary_bufs_sub, StableHlo.nullary_bufs_sub, StableHlo.reshape_bufs_sub, StableHlo.unary_bufs_sub, and_self]

theorem before_fresh : ∀ op ∈ before (F := F), op.fresh = ∅ := by
  refine List.forall_iff_forall_mem.mp ?_
  exact ⟨rfl, rfl, rfl, rfl, rfl, rfl, rfl, rfl, rfl, rfl, rfl, rfl, rfl⟩
theorem between_fresh : ∀ op ∈ between (F := F), op.fresh = ∅ := by
  refine List.forall_iff_forall_mem.mp ?_
  exact ⟨rfl, rfl, rfl, rfl⟩
theorem after_fresh : ∀ op ∈ after (F := F), op.fresh = ∅ := by
  refine List.forall_iff_forall_mem.mp ?_
  exact ⟨rfl, rfl, rfl, rfl⟩

/-- @main: the three lines, with the TensorCore kernel and the SparseCore kernel between them. -/
theorem main_eq (d : Dev nD) :
    main (F := F) d = StableHlo.seq (before (F := F)) >>= fun _ =>
      SparseCore.liftProg (Prog.lift (.customCall (Pipeline.entry 0) ())) >>= fun _ =>
        StableHlo.seq (between (F := F)) >>= fun _ => (K (F := F)).run d 0 >>= fun _ => StableHlo.seq (after (F := F)) >>= fun _ => pure ⟨⟩ := by
  chain_rfl

end Cert.Proof.Host

end
-- ==== Proof.Launch.lean ====
/-
  The kernel's run: @main on the TensorCore — host operations, the TensorCore kernel, host operations, the SparseCore
  call, host operations — from the launch's buffers to the buffers `final`; and the launch, which runs it beside the
  SparseCores' threads.
-/
module

public import proofs.«01_k».proof.Proof.Split
public import proofs.«01_k».proof.Proof.Host

@[expose] public section

noncomputable section

namespace Cert.Proof.Launch

open Idealize.ShloMosaic Idealize.ShloMosaic.Tactic
open Idealize.ShloMosaic.SparseCore (S V)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen
open Cert.Proof.Point (UU)
open Cert.Proof.Region (Vals)
open Cert.Proof.Setup Cert.Proof.Tile Cert.Proof.Task Cert.Proof.Split

variable {F : FTy → Type} [FloatOps F] [∀ e, Nonempty (Elt F e)]

local notation "𝕄" => MT nD τ sig (HIx 1) (Elt F) ℕ UU ℕ

variable (m : (ℓ : Loc nD τ sig) → Buf (Elt F) ℓ) (ρ : Dev nD → PrngReg)

/-! ## The buffers along @main -/

/-- At the TensorCore kernel's entry, -/
def atEntry (d : Dev nD) : Vals F := StableHlo.after Host.before (StableHlo.launchContents m d)
/-- at its exit, -/
def atExit (d : Dev nD) : Vals F := Region.out (atEntry m) d
/-- at the SparseCore call, -/
def atCall (d : Dev nD) : Vals F := StableHlo.after Host.between (atExit m d)
/-- the codes, the padded code book and the output at that call, -/
def codes (d : Dev nD) : Buf (Elt F) (iLoc d) := atCall m d (Proc.devRef .tc main_v11)
def book (d : Dev nD) : Buf (Elt F) (bLoc d) := atCall m d (Proc.devRef .tc main_v12)
def output (d : Dev nD) : Buf (Elt F) (oLoc d) := atCall m d (Proc.devRef .tc main_v13)
/-- after the call, the gathered rows in the output, -/
def afterCall (d : Dev nD) : Vals F := Function.update (atCall m d) (Proc.devRef .tc main_v13) (gat (codes m) (book m) d)
/-- and at the end. -/
def final (d : Dev nD) : Vals F := StableHlo.after Host.after (afterCall m d)

/-! ## The call's arrays among the buffers -/

/-- The three arrays of the SparseCore call. -/
def callRefs : Finset (DevRef τ sig) := {Proc.devRef .tc main_v11, Proc.devRef .tc main_v12, Proc.devRef .tc main_v13}

theorem callRefs_sub : callRefs ⊆ Pipeline.ucRefs τ sig := by
  intro b hb
  simp only [callRefs, Finset.mem_insert, Finset.mem_singleton] at hb
  rcases hb with rfl | rfl | rfl <;> exact Pipeline.devRef_mem_ucRefs rfl

/-- All the buffers are the call's three arrays and the rest. -/
theorem held_call (d : Dev nD) (v : Vals F) :
    (StableHlo.held (SparseCore.T d) (Pipeline.ucRefs τ sig) v : sProp 𝕄)
      = iprop(((iLoc d ↦{fullShare} v (Proc.devRef .tc main_v11)) ∗ (bLoc d ↦{fullShare} v (Proc.devRef .tc main_v12)) ∗ oLoc d ↦{fullShare} v (Proc.devRef .tc main_v13))
          ∗ StableHlo.held (SparseCore.T d) (Pipeline.ucRefs τ sig \ callRefs) v) := by
  rw [StableHlo.held_sub_split (SparseCore.T d) callRefs_sub v]
  congr 1
  unfold StableHlo.held callRefs
  rw [SparseCore.bigSep_insert' (by decide), SparseCore.bigSep_insert' (by decide), bigSep_singleton]

/-- At the call the three are the codes, the book and the output. -/
theorem held_atCall (d : Dev nD) :
    (StableHlo.held (d.tc : Thread nD τ) (Pipeline.ucRefs τ sig) (StableHlo.after Host.between (atExit m d)) : sProp 𝕄)
      = iprop(((iLoc d ↦{fullShare} codes m d) ∗ (bLoc d ↦{fullShare} book m d) ∗ oLoc d ↦{fullShare} output m d)
          ∗ StableHlo.held (SparseCore.T d) (Pipeline.ucRefs τ sig \ callRefs) (atCall m d)) := held_call d (atCall m d)

theorem ne11 : (Proc.devRef .tc main_v11 : DevRef τ sig) ≠ Proc.devRef .tc main_v13 := by decide
theorem ne12 : (Proc.devRef .tc main_v12 : DevRef τ sig) ≠ Proc.devRef .tc main_v13 := by decide

theorem out_mem : (Proc.devRef .tc main_v13 : DevRef τ sig) ∈ callRefs := by simp [callRefs]

/-- After the call they are the codes, the book and the gathered rows, and the rest unchanged. -/
theorem held_afterCall (d : Dev nD) :
    (StableHlo.held (SparseCore.T d) (Pipeline.ucRefs τ sig) (afterCall m d) : sProp 𝕄)
      = iprop(((iLoc d ↦{fullShare} codes m d) ∗ (bLoc d ↦{fullShare} book m d) ∗ oLoc d ↦{fullShare} gat (codes m) (book m) d)
          ∗ StableHlo.held (SparseCore.T d) (Pipeline.ucRefs τ sig \ callRefs) (atCall m d)) := by
  rw [held_call]
  unfold afterCall
  rw [Function.update_of_ne ne11, Function.update_of_ne ne12, Function.update_self]
  have h : ∀ b ∈ Pipeline.ucRefs τ sig \ callRefs,
      Function.update (atCall m d) (Proc.devRef .tc main_v13) (gat (codes m) (book m) d) b = atCall m d b := fun b hb =>
    Function.update_of_ne (fun h => (Finset.mem_sdiff.mp hb).2 (by rw [h]; exact out_mem)) _ _
  rw [StableHlo.held_congr (SparseCore.T d) h]
  rfl

/-! ## The launch element of the certificate's ghost state -/

def u₀ : UU := (initOf (K (F := F)).hsCells (K (F := F)).hsToks,
  (initOf (Pipeline.cells (Pipeline.pin (pcfgs (F := F)) adm) cellOf_inj) (Pipeline.launchToks (Pipeline.pin (pcfgs (F := F)) adm) cellOf_inj), 1))

/-- The TensorCore kernel's staging cells at their start. -/
def staged (d : Dev nD) : sProp 𝕄 :=
  iprop(Pipeline.cellsGhost (Pipeline.pin (pcfgs (F := F)) adm) (EP (F := F)) 0 d ∗ Pipeline.toksInit (Pipeline.pin (pcfgs (F := F)) adm) (EP (F := F)) 0 d)

theorem hu₀ : (ownU (u₀ (F := F)) : sProp 𝕄)
    ⊢ |={Set.univ}=> iprop(BI.own (EH (initOf (K (F := F)).hsCells (K (F := F)).hsToks)) ∗ bigSep Finset.univ (staged (F := F))
        ∗ bigSep Finset.univ fun thr : Thread nD τ => bigSep Finset.univ fun q : Fin 1 => (pay (codes m) (book m) (output m)).x q thr) := by
  unfold u₀
  iintro Hu
  ihave H := (ownU_pair (initOf (K (F := F)).hsCells (K (F := F)).hsToks)
    ((initOf (Pipeline.cells (Pipeline.pin (pcfgs (F := F)) adm) cellOf_inj) (Pipeline.launchToks (Pipeline.pin (pcfgs (F := F)) adm) cellOf_inj), (1 : Counters)))) $$ Hu
  icases H with ⟨HH, HR⟩
  ihave HR' := (own_pair_emb (embR (A := URounds (GSem nD τ sig) ℕ) (B := URounds (GSem nD τ sig) Unit × Counters))
    (initOf (Pipeline.cells (Pipeline.pin (pcfgs (F := F)) adm) cellOf_inj) (Pipeline.launchToks (Pipeline.pin (pcfgs (F := F)) adm) cellOf_inj)) (1 : Counters)) $$ HR
  icases HR' with ⟨HP, -⟩
  imod (Pipeline.fund_ghost (Pipeline.pin (pcfgs (F := F)) adm) (EP (F := F)) cellOf_inj) $$ HP with ⟨Hc, Ht⟩
  imodintro
  isplitl [HH]; · iexact HH
  isplitl [Hc Ht]
  · unfold staged
    rw [bigSep_sep']
    isplitl [Hc]
    · iapply (Entails.of_eq (bigSep_congr (s := Finset.univ) fun d _ => bigSep_univ_of_subsingleton (0 : Fin 1)) : (bigSep Finset.univ fun d => bigSep Finset.univ fun p : Fin 1 => Pipeline.cellsGhost (Pipeline.pin (pcfgs (F := F)) adm) (EP (F := F)) p d : sProp 𝕄) ⊢ _); iexact Hc
    · iapply (Entails.of_eq (bigSep_congr (s := Finset.univ) fun d _ => bigSep_univ_of_subsingleton (0 : Fin 1)) : (bigSep Finset.univ fun d => bigSep Finset.univ fun p : Fin 1 => Pipeline.toksInit (Pipeline.pin (pcfgs (F := F)) adm) (EP (F := F)) p d : sProp 𝕄) ⊢ _); iexact Ht
  rw [show (bigSep Finset.univ fun thr : Thread nD τ => bigSep Finset.univ fun q : Fin 1 => (pay (codes m) (book m) (output m)).x q thr)
      = bigSep Finset.univ fun _ => iprop(emp) from
    bigSep_congr fun _ _ => bigSep_univ_of_subsingleton (0 : Fin 1)]
  iapply (Entails.of_eq (bigSep_emp_const (M := 𝕄) (Finset.univ : Finset (Thread nD τ))).symm)
  iempintro

/-! ## @main -/

/-- The TensorCore's state before the SparseCore call, what it owes taken out. -/
theorem owing_out (d : Dev nD) :
    ((K (F := F)).tcSt EH d 0 : sProp 𝕄) ⊢ iprop(Region.owing (F := F) d ∗ (Region.owing (F := F) d -∗ (K (F := F)).tcSt EH d 0)) := by
  unfold SparseCore.Cfg.tcSt Region.owing
  iintro ⟨HO, Hr⟩
  isplitl [HO]; · iexact HO
  iintro HO
  isplitl [HO]; · iexact HO
  iexact Hr

/-- The TensorCore kernel, from the buffers at its entry to those at its exit. -/
theorem region_run (d : Dev nD) (Q : PUnit → sProp 𝕄) :
    iprop(((boundary (d.tc : Thread nD τ) ∗ StableHlo.held (d.tc : Thread nD τ) (Pipeline.ucRefs τ sig) (atExit m d) ∗ Region.owing (F := F) d) -∗ Q ⟨⟩)
        ∗ boundary (d.tc : Thread nD τ) ∗ StableHlo.held (d.tc : Thread nD τ) (Pipeline.ucRefs τ sig) (atEntry m d) ∗ Region.owing (F := F) d
        ∗ levAts (K (F := F)).L (K (F := F)).lev ∗ staged (F := F) d)
      ⊢ wp frame (wpE (D (F := F)) 𝒱 (d.tc : Thread nD τ) none) Set.univ (Prog.lift (.customCall (Pipeline.entry 0) ())) Q := by
  have h := Pipeline.RegionSeg.wp pcfgs adm (Region.dats (atEntry m)) (none : HIx 1) cellOf_inj (EP (F := F)) (defs₀ (F := F)) 𝒱₀ (K (F := F)).L (K (F := F)).lev
    (Region.reg0 (atEntry m)) d none (fun u hu => (Option.not_mem_none u hu).elim) (fun _ => Prog.ret ⟨⟩) Q
  rw [show (Region.reg0 (atEntry m)).pre d = iprop(StableHlo.held (d.tc : Thread nD τ) (Pipeline.ucRefs τ sig) (atEntry m d) ∗ Region.owing (F := F) d) from rfl,
    show (Region.reg0 (atEntry m)).post d = iprop(StableHlo.held (d.tc : Thread nD τ) (Pipeline.ucRefs τ sig) (atExit m d) ∗ Region.owing (F := F) d) from rfl] at h
  iintro ⟨Hk, Hb, Hbufs, Ho, Hlev, Hg⟩
  iapply h
  isplitl [Hk]
  · iintro H
    rw [wp_ret]
    imodintro
    iapply Hk; iexact H
  isplitl [Hb]; · iexact Hb
  isplitl [Hbufs Ho]
  · isplitl [Hbufs]; · iexact Hbufs
    iexact Ho
  isplitl [Hlev]; · iexact Hlev
  unfold staged
  iexact Hg

set_option maxHeartbeats 1000000 in
/-- @main from the launch's buffers, the handshakes' state and the staging cells, to the buffers `final`. -/
theorem hmain (κ : GSem nD τ sig → ℕ) (d : Dev nD) :
    iprop((K (F := F)).ctx EH (pay (codes m) (book m) (output m)) κ ∗ (K (F := F)).tcSt EH d 0 ∗ (K (F := F)).tcRes m ρ d ∗ staged (F := F) d)
      ⊢ wp frame (wpE ((K (F := F)).defs (D (F := F))) 𝒱 (SparseCore.T d) none) Set.univ (main d)
          fun _ => iprop((K (F := F)).tcSt EH d 1 ∗ StableHlo.held (SparseCore.T d) (Pipeline.ucRefs τ sig) (final m d) ∗ (K (F := F)).tcEnd d) := by
  unfold SparseCore.Cfg.tcRes SparseCore.Cfg.tcEnd staged
  rw [Host.main_eq, show (unscopedBufs d (fun b => m ((SparseCore.T d).loc b)) : sProp 𝕄)
    = StableHlo.held (d.tc : Thread nD τ) (Pipeline.ucRefs τ sig) (StableHlo.launchContents m d) from Pipeline.unscopedBufs_held d (StableHlo.launchContents m d)]
  iintro ⟨#Hctx, Hst, ⟨Hb, Hbufs, Hts, -⟩, Hcg, Htk⟩
  iapply (StableHlo.wp_seq 𝒱 none Set.univ d (Pipeline.ucRefs τ sig) _ Host.before
    (fun op h => Pipeline.sub_ucRefs op ((List.forall_iff_forall_mem.mp Host.before_bufs) op h)) Host.before_fresh (StableHlo.launchContents m d)) $$ [Hb Hbufs]
  · isplitl [Hb]; · iexact Hb
    iexact Hbufs
  iintro ⟨Hb, Hbufs⟩
  rw [wp_bind]
  ihave Ho := (owing_out (F := F) d) $$ Hst
  icases Ho with ⟨Ho, Hst⟩
  ihave Hlev := (SparseCore.Cfg.ctx_levAts κ) $$ Hctx
  iapply ((K (F := F)).wp_liftProg (D (F := F)) 𝒱 (SparseCore.T d) Set.univ none (Prog.lift (.customCall (Pipeline.entry 0) ())) _)
  iapply (region_run m d _)
  isplitr [Hb Hbufs Ho Hlev Hcg Htk]
  rotate_left
  · isplitl [Hb]; · iexact Hb
    isplitl [Hbufs]; · iexact Hbufs
    isplitl [Ho]; · iexact Ho
    isplitl [Hlev]; · iexact Hlev
    unfold staged
    isplitl [Hcg]; · iexact Hcg
    iexact Htk
  iintro ⟨Hb, Hbufs, Ho⟩
  ihave Hst := Hst $$ Ho
  iapply (StableHlo.wp_seq 𝒱 none Set.univ d (Pipeline.ucRefs τ sig) _ Host.between
    (fun op h => Pipeline.sub_ucRefs op ((List.forall_iff_forall_mem.mp Host.between_bufs) op h)) Host.between_fresh (atExit m d)) $$ [Hb Hbufs]
  · isplitl [Hb]; · iexact Hb
    iexact Hbufs
  iintro ⟨Hb, Hbufs⟩
  ihave Hbufs := (Entails.of_eq (held_atCall (F := F) m d)) $$ Hbufs
  icases Hbufs with ⟨Hcall, Hrest⟩
  rw [wp_bind]
  iapply ((K (F := F)).wp_run (D (F := F)) 𝒱 κ d 0)
  isplitr; · iexact Hctx
  isplitl [Hst]; · iexact Hst
  isplitl [Hcall]
  · iapply (Entails.of_eq (taken (codes m) (book m) (output m) d).symm); iexact Hcall
  iintro ⟨Hst, Hcall⟩
  ihave Hcall := (Entails.of_eq (given (codes m) (book m) (output m) d)) $$ Hcall
  ihave Hbufs := (Entails.of_eq (held_afterCall (F := F) m d).symm) $$ [Hcall Hrest]
  · isplitl [Hcall]; · iexact Hcall
    iexact Hrest
  iapply (StableHlo.wp_seq 𝒱 none Set.univ d (Pipeline.ucRefs τ sig) _ Host.after
    (fun op h => Pipeline.sub_ucRefs op ((List.forall_iff_forall_mem.mp Host.after_bufs) op h)) Host.after_fresh (afterCall m d)) $$ [Hb Hbufs]
  · isplitl [Hb]; · iexact Hb
    iexact Hbufs
  iintro ⟨Hb, Hbufs⟩
  rw [wp_pure]
  imodintro
  isplitl [Hst]; · iexact Hst
  isplitl [Hbufs]; · iexact Hbufs
  isplitl [Hb]; · iexact Hb
  iexact Hts

/-! ## The run -/

/-- What is held at the end is what the memory holds. -/
theorem hfin (d : Dev nD) (s' : Phys nD τ sig (Elt F)) :
    iprop(StableHlo.held (SparseCore.T d) (Pipeline.ucRefs τ sig) (final m d) ∗ SI s') ⊢ (⌜∀ b ∈ Pipeline.ucRefs τ sig, s'.mem.mem (d, b) = final m d b⌝ : sProp 𝕄) := by
  iintro ⟨H, HSI⟩
  unfold StableHlo.held
  iapply (SI_pointsTo_bufs_agree (qs := fun _ => fullShare) (Pipeline.ucRefs τ sig))
  isplitl [HSI]; · iexact HSI
  iexact H

/-- The kernel runs, from any memory on which every code is a row of the book, to the buffers `final`, every semaphore at zero. -/
theorem run_main (hpre : InBook (codes m)) :
    θ_run (defs (F := F)) ((sc (F := F)).threads main) ⟨m, fun _ => 0, ρ⟩ fun r =>
      (∀ d : Dev nD, ∀ b ∈ Pipeline.ucRefs τ sig, r.2.mem (d, b) = final m d b) ∧ r.2.sem = fun _ => 0 :=
  SparseCore.Cfg.θ_run_sc_quiescent (K := K (F := F)) (D := D (F := F)) (𝒱 := 𝒱) (EH := EH) (P := pay (codes m) (book m) (output m)) (A := ∅)
    facts v₀ (fun q hq => match q with | 0 => nomatch hq)
    (fun q _ => match q with | 0 => tileObl (codes m) (book m) (output m) hpre)
    (fun q _ => match q with | 0 => SparseCore.Cfg.VecSplit.of_plain (vecSplit (codes m) (book m) (output m)))
    m ρ main (staged (F := F)) (fun d => StableHlo.held (SparseCore.T d) (Pipeline.ucRefs τ sig) (final m d)) (u₀ (F := F))
    (sep_elim_left.trans (hu₀ m)) (hmain m ρ) (fun d s' => ∀ b ∈ Pipeline.ucRefs τ sig, s'.mem.mem (d, b) = final m d b) (hfin m)
    (fun r => (∀ d : Dev nD, ∀ b ∈ Pipeline.ucRefs τ sig, r.2.mem (d, b) = final m d b) ∧ r.2.sem = fun _ => 0)
    (fun _ h hz => ⟨h, hz⟩)

end Cert.Proof.Launch

end
-- ==== Proof.Bound.lean ====
/-
  Whatever the distances are, every code a point writes is below 8192, the number of codes.
-/
module

public import proofs.«01_k».proof.Proof.Point
public import Idealize.ShloMosaic.Lib.ValueIdxCore

@[expose] public section

noncomputable section

namespace Cert.Proof.Bound

open Idealize.ShloMosaic Idealize.ShloMosaic.Tactic
open Cert.KernelIdeal
open Cert.KernelIdeal.Facts₀ Cert.KernelIdeal.Facts
open Cert.Proof.Scan Cert.Proof.Point

variable {F : FTy → Type} [FloatOps F] [Facts]

/-- Every number in the vector is below `n`. -/
def Below {s : Shape} (n : ℕ) (u : IVec s 32) : Prop := ∀ i, (u i).toNat < n

theorem below_select {s : Shape} {n : ℕ} (w : IVec s 1) {a b : IVec s 32} (ha : Below n a) (hb : Below n b) : Below n (select w a b) := by
  intro i
  show (if w i = 1#1 then a i else b i).toNat < n
  split
  · exact ha i
  · exact hb i

theorem below_slice {s t : Shape} {n : ℕ} {u : IVec s 32} (hu : Below n u) (off : Fin s.rank → ℕ) (h : s.Slices off t) :
    Below n (extractStridedSlice t off u h) := fun _ => hu _

theorem below_cast {s t : Shape} {n : ℕ} {u : IVec s 32} (hu : Below n u) (h : s.ShapeCasts t) : Below n (shapeCast t u h) := fun _ => hu _

/-- The group a least distance was met in is one of the scan's. -/
theorem below_leastAt (d : ℕ → FVec F S8x4096 .f32) (base : ℕ) (hb : base ≤ 512) : ∀ k, k ≤ 512 → Below 1024 (leastAt d base k)
  | 0, _ => fun _ => by show (0#32).toNat < 1024; decide
  | k + 1, hk => below_select _ (fun _ => by
      show (BitVec.ofNat 32 (base + k)).toNat < 1024
      rw [BitVec.toNat_ofNat]; omega) (below_leastAt d base hb k (by omega))

/-- So the codes the sublanes hold are codes. -/
theorem below_codes {r : IVec S8x4096 32} (hr : Below 1024 r) : Below 8192 (codes r) := by
  intro i
  have h1 := hr i
  have h2 : (i 0).val < 8 := (i 0).isLt
  show (r i * 8#32 + BitVec.ofNat 32 (0 * 8 + (i 0).val)).toNat < 8192
  rw [BitVec.toNat_add, BitVec.toNat_mul, BitVec.toNat_ofNat, BitVec.toNat_ofNat]
  omega

theorem below_half (v : FVec F S8x4096 .f32) {c : IVec S8x4096 32} (hc : Below 8192 c) : Below 8192 (halfC v c) := by
  have h4 : Below 8192 (to4 (win8 v c) c) := below_select _ (below_slice hc _ _) (below_slice hc _ _)
  have h2 : Below 8192 (to2 (win4 (to4 (win8 v c) v) (to4 (win8 v c) c)) (to4 (win8 v c) c)) := below_select _ (below_slice h4 _ _) (below_slice h4 _ _)
  exact below_select _ (below_slice h2 _ _) (below_slice h2 _ _)

/-- The codes a point writes are codes. -/
theorem below_codesOf (xx : S1x1x4096.Idx → Elt F .f32) (n : S8192x1.Idx → Elt F .f32) (x : S4096x64.Idx → Elt F .bf16)
    (e : S8192x64.Idx → Elt F .bf16) : Below 8192 (codesOf xx n x e) :=
  below_cast (below_select _ (below_half _ (below_codes (below_leastAt _ 512 (by omega) 512 le_rfl)))
    (below_half _ (below_codes (below_leastAt _ 0 (by omega) 512 le_rfl)))) _

end Cert.Proof.Bound

end
-- ==== Proof.Exit.lean ====
/-
  What the TensorCore kernel's windows hold and what it leaves, element by element: a window's block is the part of its
  array the point's index names; the codes' array ends with each point's codes in the point's row, and the loss's with
  the loss after the last point.
-/
module

public import proofs.«01_k».proof.Proof.Region
public import proofs.«01_k».proof.Proof.Bound
public import Idealize.ShloMosaic.Lib.Pipeline.Value

@[expose] public section

noncomputable section

namespace Cert.Proof.Exit

open Idealize.ShloMosaic Idealize.ShloMosaic.Tactic Idealize.ShloMosaic.ValueIdx
open Idealize.ShloMosaic.Pipeline (Dat arrRef)
open Cert.KernelIdeal Cert.KernelIdeal.Gen
open Cert.Proof.Point Cert.Proof.Setup Cert.Proof.Region

variable {F : FTy → Type} [FloatOps F] [∀ e, Nonempty (Elt F e)]
variable (v : Dev nD → Vals F) (c : Dev nD)

/-! ## The windows' indices -/

theorem index0 : ∀ t : Fin grid0.N, win0_0.index t = ![t.val, 0, 0] := by decide
theorem index1 : ∀ t : Fin grid0.N, win0_1.index t = ![0, 0] := by decide
theorem index2 : ∀ t : Fin grid0.N, win0_2.index t = ![t.val, 0] := by decide
theorem index3 : ∀ t : Fin grid0.N, win0_3.index t = ![0, 0] := by decide
theorem index4 : ∀ t : Fin grid0.N, win0_4.index t = ![t.val, 0, 0] := by decide
theorem index5 : ∀ t : Fin grid0.N, win0_5.index t = ![0, 0] := by decide

theorem lt4 (t : Fin grid0.N) : t.val < 4 := by have := t.isLt; have := N_0; omega

/-- A token of point `t`, among all tokens. -/
def token (t : Fin grid0.N) (s : Fin 4096) : Fin 16384 := ⟨4096 * t.val + s.val, by have := lt4 t; omega⟩

/-! ## Where an element of a block lies in its array -/

theorem place0 (t : Fin grid0.N) (y : (win0_0.xblock (grid0.coords t)).Idx) (a : Fin 3) :
    ((win0_0.rect t).emb y a : ℕ) = (![t.val, 0, 0] : Fin 3 → ℕ) a * (![1, 1, 4096] : Fin 3 → ℕ) a + (y a : ℕ) := by
  have h := Pipeline.Window.rect_emb_val win0_0 t y a
  rw [index0] at h
  exact h

theorem place1 (t : Fin grid0.N) (y : (win0_1.xblock (grid0.coords t)).Idx) (a : Fin 2) :
    ((win0_1.rect t).emb y a : ℕ) = (![0, 0] : Fin 2 → ℕ) a * (![8192, 1] : Fin 2 → ℕ) a + (y a : ℕ) := by
  have h := Pipeline.Window.rect_emb_val win0_1 t y a
  rw [index1] at h
  exact h

theorem place2 (t : Fin grid0.N) (y : (win0_2.xblock (grid0.coords t)).Idx) (a : Fin 2) :
    ((win0_2.rect t).emb y a : ℕ) = (![t.val, 0] : Fin 2 → ℕ) a * (![4096, 64] : Fin 2 → ℕ) a + (y a : ℕ) := by
  have h := Pipeline.Window.rect_emb_val win0_2 t y a
  rw [index2] at h
  exact h

theorem place3 (t : Fin grid0.N) (y : (win0_3.xblock (grid0.coords t)).Idx) (a : Fin 2) :
    ((win0_3.rect t).emb y a : ℕ) = (![0, 0] : Fin 2 → ℕ) a * (![8192, 64] : Fin 2 → ℕ) a + (y a : ℕ) := by
  have h := Pipeline.Window.rect_emb_val win0_3 t y a
  rw [index3] at h
  exact h

theorem place4 (t : Fin grid0.N) (y : (win0_4.xblock (grid0.coords t)).Idx) (a : Fin 3) :
    ((win0_4.rect t).emb y a : ℕ) = (![t.val, 0, 0] : Fin 3 → ℕ) a * (![1, 1, 4096] : Fin 3 → ℕ) a + (y a : ℕ) := by
  have h := Pipeline.Window.rect_emb_val win0_4 t y a
  rw [index4] at h
  exact h

theorem place5 (t : Fin grid0.N) (y : (win0_5.xblock (grid0.coords t)).Idx) (a : Fin 2) :
    ((win0_5.rect t).emb y a : ℕ) = (![0, 0] : Fin 2 → ℕ) a * (![1, 1] : Fin 2 → ℕ) a + (y a : ℕ) := by
  have h := Pipeline.Window.rect_emb_val win0_5 t y a
  rw [index5] at h
  exact h

theorem all2 {P : Fin 2 → Prop} (h0 : P 0) (h1 : P 1) : ∀ a, P a
  | 0 => h0
  | 1 => h1

theorem all3 {P : Fin 3 → Prop} (h0 : P 0) (h1 : P 1) (h2 : P 2) : ∀ a, P a
  | 0 => h0
  | 1 => h1
  | 2 => h2

/-! ## The inputs' blocks -/

/-- The tokens' norms: row `t`. -/
theorem block0 (w : Vals F) (t : Fin grid0.N) (s : Fin 4096) :
    blockAt w c 0 t (ix3 0 0 s) = w (Proc.devRef .tc main_v2) (ix3 ⟨t.val, lt4 t⟩ 0 s : S4x1x4096.Idx) := by
  refine congrArg (w (Proc.devRef .tc main_v2)) (funext (all3 (Fin.ext ?_) (Fin.ext ?_) (Fin.ext ?_)))
  · exact (place0 t _ 0).trans (by simp)
  · exact (place0 t _ 1).trans (by simp)
  · exact (place0 t _ 2).trans (by simp)

/-- The codes' norms: all of them. -/
theorem block1 (w : Vals F) (t : Fin grid0.N) (i : Fin 8192) :
    blockAt w c 1 t (ix2 i 0) = w (Proc.devRef .tc main_v5) (ix2 i 0 : S8192x1.Idx) := by
  refine congrArg (w (Proc.devRef .tc main_v5)) (funext (all2 (Fin.ext ?_) (Fin.ext ?_)))
  · exact (place1 t _ 0).trans (by simp)
  · exact (place1 t _ 1).trans (by simp)

/-- The tokens: the point's. -/
theorem block2 (w : Vals F) (t : Fin grid0.N) (s : Fin 4096) (k : Fin 64) :
    blockAt w c 2 t (ix2 s k) = w (Proc.devRef .tc main_v6) (ix2 (token t s) k : S16384x64.Idx) := by
  refine congrArg (w (Proc.devRef .tc main_v6)) (funext (all2 (Fin.ext ?_) (Fin.ext ?_)))
  · exact (place2 t _ 0).trans (by simp [token, Nat.mul_comm])
  · exact (place2 t _ 1).trans (by simp)

/-- The book, minus twice it: all of it. -/
theorem block3 (w : Vals F) (t : Fin grid0.N) (i : Fin 8192) (k : Fin 64) :
    blockAt w c 3 t (ix2 i k) = w (Proc.devRef .tc main_v9) (ix2 i k : S8192x64.Idx) := by
  refine congrArg (w (Proc.devRef .tc main_v9)) (funext (all2 (Fin.ext ?_) (Fin.ext ?_)))
  · exact (place3 t _ 0).trans (by simp)
  · exact (place3 t _ 1).trans (by simp)

/-! ## The outputs -/

/-- The point of a row of the codes' array. -/
def pointOf (i : S4x1x4096.Idx) : Fin grid0.N := ⟨(i 0).val, by rw [N_0]; exact (i 0).isLt⟩

theorem cast_self {α : Type} (h : α = α) (x : α) : _root_.cast h x = x := rfl

/-- The codes' array at the exit, whole, -/
def codesOut : S4x1x4096.Idx → Elt F .i32 := fun i => codesAt (v c) c (pointOf i) (ix3 0 0 (i 2))

/-- read as point `t`'s block is the point's codes; -/
theorem codesOut_block (t : Fin grid0.N) (y : (win0_4.xblock (grid0.coords t)).Idx) :
    codesAt (v c) c t y = codesOut v c ((win0_4.rect t).emb y) := by
  have h0 : (y 0).val < 1 := (y 0).isLt
  have h1 : (y 1).val < 1 := (y 1).isLt
  have e0 : ((win0_4.rect t).emb y 0 : ℕ) = t.val := (place4 t y 0).trans (by simp; omega)
  have e2 : ((win0_4.rect t).emb y 2 : ℕ) = (y 2).val := (place4 t y 2).trans (by simp)
  unfold codesOut
  refine congr (congrArg (codesAt (v c) c) (Fin.ext e0.symm)) (funext (all3 (Fin.ext ?_) (Fin.ext ?_) (Fin.ext e2.symm)))
  · show (y 0).val = 0; omega
  · show (y 1).val = 0; omega

/-- every element lies in a block. -/
theorem codesOut_cover (i : S4x1x4096.Idx) : (win0_4.rect (pointOf i)).emb (ix3 0 0 (i 2) : S1x1x4096.Idx) = i := by
  have h1 : (i 1).val < 1 := (i 1).isLt
  refine funext (all3 (Fin.ext ?_) (Fin.ext ?_) (Fin.ext ?_))
  · exact (place4 _ _ 0).trans (by simp [pointOf])
  · exact (place4 _ _ 1).trans (by simp; omega)
  · exact (place4 _ _ 2).trans (by simp)

/-- The codes' array at the exit. -/
theorem exit_codes : out v c (Proc.devRef .tc main_v10_0) = codesOut v c := by
  have h : out v c (Proc.devRef .tc (arrRef cfg0.spec 4)) = (dats v 0 c).arrAt 4 cfg0.N := Pipeline.afterRegion_arr (dats v 0 c) (v c) launch0.win.arr_inj 4
  refine h.trans ((dats v 0 c).arrAt_eq_of_cover 4 (codesOut v c) (fun t _ => funext fun y => ?_) (fun i => ⟨pointOf i, flush0_4 _, ?_⟩))
  · rw [View.read_apply]
    refine Eq.trans ?_ ((codesOut_block v c t y).trans (cast_self _ _).symm)
    rfl
  · have hm := ((cfg0.win 4).blk (pointOf i)).view.emb_mem_set (ix3 0 0 (i 2) : S1x1x4096.Idx)
    exact (congrArg (· ∈ ((cfg0.win 4).blk (pointOf i)).view.set) (codesOut_cover i)).mp hm

/-- The loss's one place is the whole of its block. -/
theorem lossOut_place (t : Fin grid0.N) (y : (win0_5.xblock (grid0.coords t)).Idx) : (win0_5.rect t).emb y = (y : S1x1.Idx) := by
  refine funext (all2 (Fin.ext ?_) (Fin.ext ?_))
  · exact (place5 _ _ 0).trans (by simp)
  · exact (place5 _ _ 1).trans (by simp)

/-- The loss at the exit. -/
theorem exit_loss : out v c (Proc.devRef .tc main_v10_1) = lossAt (v c) c 3 (by decide) := by
  have h : out v c (Proc.devRef .tc (arrRef cfg0.spec 5)) = (dats v 0 c).arrAt 5 cfg0.N := Pipeline.afterRegion_arr (dats v 0 c) (v c) launch0.win.arr_inj 5
  refine h.trans ((dats v 0 c).arrAt_eq_of_cover 5 (lossAt (v c) c 3 (by decide)) (fun t ht => funext fun y => ?_)
    (fun i => ⟨t0_3, (flush0_5 _).mpr rfl, ?_⟩))
  · have h3 : t = t0_3 := by
      have := (flush0_5 t).mp ht; have := lt4 t
      exact Fin.ext (show t.val = 3 by omega)
    subst h3
    rw [View.read_apply]
    refine Eq.trans ?_ ((congrArg (lossAt (v c) c 3 (by decide)) (lossOut_place t0_3 y).symm).trans (cast_self _ _).symm)
    rfl
  · have hm := ((cfg0.win 5).blk t0_3).view.emb_mem_set (i : S1x1.Idx)
    exact (congrArg (· ∈ ((cfg0.win 5).blk t0_3).view.set) (lossOut_place t0_3 i)).mp hm

/-- Any other buffer is as it was at the entry. -/
theorem exit_other (b : Ref sig .tc) (hb : ∀ w, b ≠ arrRef spec0 w) : out v c (Proc.devRef .tc b) = v c (Proc.devRef .tc b) :=
  Pipeline.afterRegion_of_not_arr (dats v 0 c) (v c) hb

end Cert.Proof.Exit

end
-- ==== Proof.Values.lean ====
/-
  The buffers along @main read: what the host operations leave in the arrays the kernels take, and the results, in terms
  of the arguments and of the two kernels' outputs.
-/
module

public import proofs.«01_k».proof.Proof.Launch
public import proofs.«01_k».proof.Proof.Exit

@[expose] public section

noncomputable section

namespace Cert.Proof.Values

open Idealize.ShloMosaic Idealize.ShloMosaic.Tactic Idealize.ShloMosaic.ValueIdx
open Idealize.ShloMosaic.StableHlo
open Cert.KernelIdeal Cert.KernelIdeal.Gen
open Cert.Proof.Region (Vals)
open Cert.Proof.Setup Cert.Proof.Tile Cert.Proof.Task Cert.Proof.Launch

variable {F : FTy → Type} [FloatOps F] [∀ e, Nonempty (Elt F e)]
variable (m : (ℓ : Loc nD τ sig) → Buf (Elt F) ℓ) (d : Dev nD)

/-- The tokens and the code book, as launched. -/
def tokens : S16384x64.Idx → Elt F .f32 := m ((SparseCore.T d).loc main_arg0)
def bookArg : S8192x64.Idx → Elt F .f32 := m ((SparseCore.T d).loc main_arg2)

/-! ## At the TensorCore kernel's entry -/

theorem entry_v2 : atEntry m d (Proc.devRef .tc main_v2)
    = shapeCast S4x1x4096 (Host.reduceAdd (mulf (tokens m d) (tokens m d)) (constant S_ .f32 0x00000000#32) reducesTo_S16384x64_S16384_d1 h_S_) shapeCasts_S16384_S4x1x4096 := by
  unfold atEntry Host.before
  after_results
  rfl

theorem entry_v5 : atEntry m d (Proc.devRef .tc main_v5)
    = shapeCast S8192x1 (Host.reduceAdd (mulf (bookArg m d) (bookArg m d)) (constant S_ .f32 0x00000000#32) reducesTo_S8192x64_S8192_d1 h_S_) shapeCasts_S8192_S8192x1 := by
  unfold atEntry Host.before
  after_results
  rfl

theorem entry_v6 : atEntry m d (Proc.devRef .tc main_v6) = truncf .bf16 (tokens m d) bitsLt_bf16_f32 := by
  unfold atEntry Host.before
  after_results
  rfl

theorem entry_v9 : atEntry m d (Proc.devRef .tc main_v9)
    = truncf .bf16 (mulf (broadcastInDim S8192x64 ![] bcast_S_S8192x64 (constant S_ .f32 0xC0000000#32)) (bookArg m d)) bitsLt_bf16_f32 := by
  unfold atEntry Host.before
  after_results
  rfl

/-- What the operations before the kernel do not write is as launched. -/
theorem entry_arg0 : atEntry m d (Proc.devRef .tc main_arg0) = m ((SparseCore.T d).loc main_arg0) := by
  unfold atEntry Host.before
  after_results
theorem entry_arg1 : atEntry m d (Proc.devRef .tc main_arg1) = m ((SparseCore.T d).loc main_arg1) := by
  unfold atEntry Host.before
  after_results
theorem entry_arg2 : atEntry m d (Proc.devRef .tc main_arg2) = m ((SparseCore.T d).loc main_arg2) := by
  unfold atEntry Host.before
  after_results

theorem exit_arg0 : atExit m d (Proc.devRef .tc main_arg0) = m ((SparseCore.T d).loc main_arg0) :=
  (Exit.exit_other (atEntry m) d main_arg0 (by decide)).trans (entry_arg0 m d)
theorem exit_arg1 : atExit m d (Proc.devRef .tc main_arg1) = m ((SparseCore.T d).loc main_arg1) :=
  (Exit.exit_other (atEntry m) d main_arg1 (by decide)).trans (entry_arg1 m d)
theorem exit_arg2 : atExit m d (Proc.devRef .tc main_arg2) = m ((SparseCore.T d).loc main_arg2) :=
  (Exit.exit_other (atEntry m) d main_arg2 (by decide)).trans (entry_arg2 m d)

/-! ## At the SparseCore call -/

theorem codes_eq : codes m d = shapeCast S16384 (Exit.codesOut (atEntry m) d) shapeCasts_S4x1x4096_S16384 := by
  rw [← Exit.exit_codes]
  unfold codes atCall Host.between
  after_results
  rfl

/-- The code book, padded with zeros. -/
theorem book_eq : book m d = pad S8192x128 ![0, 0] ![0, 64] ![0, 0] (bookArg m d) (sitofp .f32 (constantI S_ 32 0#32)) pads_S8192x64_S8192x128_000_0640 h_S_ := by
  have h := exit_arg2 m d
  unfold book atCall Host.between
  after_results
  rw [h]
  rfl

theorem call_v10_1 : atCall m d (Proc.devRef .tc main_v10_1) = Region.lossAt (atEntry m d) d 3 (by decide) := by
  rw [← Exit.exit_loss]
  unfold atCall Host.between
  after_results
  rfl

theorem call_arg0 : atCall m d (Proc.devRef .tc main_arg0) = m ((SparseCore.T d).loc main_arg0) := by
  refine Eq.trans ?_ (exit_arg0 m d)
  unfold atCall Host.between
  after_results
theorem call_arg1 : atCall m d (Proc.devRef .tc main_arg1) = m ((SparseCore.T d).loc main_arg1) := by
  refine Eq.trans ?_ (exit_arg1 m d)
  unfold atCall Host.between
  after_results
theorem call_arg2 : atCall m d (Proc.devRef .tc main_arg2) = m ((SparseCore.T d).loc main_arg2) := by
  refine Eq.trans ?_ (exit_arg2 m d)
  unfold atCall Host.between
  after_results

/-- Every code is a row of the book. -/
theorem inBook : InBook (codes m) := by
  intro d j
  rw [codes_eq]
  exact Bound.below_cast (s := S4x1x4096) (u := Exit.codesOut (atEntry m) d) (fun i => Bound.below_codesOf _ _ _ _ _) _ j

/-! ## At the end -/

theorem afterCall_out : afterCall m d (Proc.devRef .tc main_v13) = gat (codes m) (book m) d := Function.update_self ..
theorem afterCall_ne (b : Ref sig .tc) (h : (Proc.devRef .tc b : DevRef τ sig) ≠ Proc.devRef .tc main_v13) :
    afterCall m d (Proc.devRef .tc b) = atCall m d (Proc.devRef .tc b) := Function.update_of_ne h ..

theorem final_v14 : final m d (Proc.devRef .tc main_v14)
    = extractStridedSlice S16384x64 ![0, 0] (gat (codes m) (book m) d) slices_S16384x128_S16384x64_0_0 := by
  rw [← afterCall_out]
  unfold final Host.after
  after_results

theorem final_v11 : final m d (Proc.devRef .tc main_v11) = codes m d := by
  refine Eq.trans ?_ (afterCall_ne m d main_v11 ne11)
  unfold final Host.after
  after_results

theorem final_v16 : final m d (Proc.devRef .tc main_v16)
    = mulf (shapeCast S_ (Region.lossAt (atEntry m d) d 3 (by decide)) shapeCasts_S1x1_S_) (constant S_ .f32 0x35A00000#32) := by
  rw [← call_v10_1, ← afterCall_ne m d main_v10_1 (by decide)]
  unfold final Host.after
  after_results
  rfl

theorem final_arg0 : final m d (Proc.devRef .tc main_arg0) = m ((SparseCore.T d).loc main_arg0) := by
  refine Eq.trans ?_ ((afterCall_ne m d main_arg0 (by decide)).trans (call_arg0 m d))
  unfold final Host.after
  after_results
theorem final_arg1 : final m d (Proc.devRef .tc main_arg1) = m ((SparseCore.T d).loc main_arg1) := by
  refine Eq.trans ?_ ((afterCall_ne m d main_arg1 (by decide)).trans (call_arg1 m d))
  unfold final Host.after
  after_results
theorem final_arg2 : final m d (Proc.devRef .tc main_arg2) = m ((SparseCore.T d).loc main_arg2) := by
  refine Eq.trans ?_ ((afterCall_ne m d main_arg2 (by decide)).trans (call_arg2 m d))
  unfold final Host.after
  after_results

/-! ## The run -/

/-- The kernel runs, from any memory, its results the final buffers', its arguments unchanged and every semaphore at zero. -/
theorem run_values (ρ : Dev nD → PrngReg) :
    θ_run (defs (F := F)) ((sc (F := F)).threads main) ⟨m, fun _ => 0, ρ⟩ fun r =>
      (∀ c : Dev nD, r.2.mem ((c.tc : Thread nD τ).loc main_v14) = final m c (Proc.devRef .tc main_v14)
        ∧ r.2.mem ((c.tc : Thread nD τ).loc main_v16) = final m c (Proc.devRef .tc main_v16)
        ∧ r.2.mem ((c.tc : Thread nD τ).loc main_v11) = final m c (Proc.devRef .tc main_v11)
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2))
      ∧ r.2.sem = fun _ => 0 :=
  (θ_run (defs (F := F)) _ _).mono (fun r h => ⟨fun c =>
    ⟨h.1 c (Proc.devRef .tc main_v14) (Pipeline.devRef_mem_ucRefs rfl), h.1 c (Proc.devRef .tc main_v16) (Pipeline.devRef_mem_ucRefs rfl),
      h.1 c (Proc.devRef .tc main_v11) (Pipeline.devRef_mem_ucRefs rfl),
      (h.1 c (Proc.devRef .tc main_arg0) (Pipeline.devRef_mem_ucRefs rfl)).trans (final_arg0 m c),
      (h.1 c (Proc.devRef .tc main_arg1) (Pipeline.devRef_mem_ucRefs rfl)).trans (final_arg1 m c),
      (h.1 c (Proc.devRef .tc main_arg2) (Pipeline.devRef_mem_ucRefs rfl)).trans (final_arg2 m c)⟩, h.2⟩)
    (run_main m ρ (inBook m))

end Cert.Proof.Values

end
-- ==== Proof.Frames.lean ====
/-
  The kernel's frames: at the machine's floats and at the reals it runs, leaves its arguments as they were and every
  semaphore at zero. The kernel's program at the machine's floats and its program at the reals are one text, so one run serves.
-/
module

public import proofs.«01_k».proof.Defs
public import proofs.«01_k».proof.Proof.Gen.Kernel
public import proofs.«01_k».proof.Proof.Values

@[expose] public section

noncomputable section

namespace Cert.Proof.Frames

open Idealize.ShloMosaic Idealize.SL.Sem

/-- The kernel's run at any floats, its arguments unchanged and every semaphore at zero. -/
theorem run_frame {F : FTy → Type} [FloatOps F] [∀ e, Nonempty (Elt F e)]
    (m : (ℓ : Loc Cert.KernelIdeal.nD Cert.KernelIdeal.τ Cert.KernelIdeal.sig) → Buf (Elt F) ℓ)
    (ρ : Dev Cert.KernelIdeal.nD → PrngReg) :
    θ_run (Cert.KernelIdeal.defs (F := F)) (Cert.KernelIdeal.threads (F := F)) ⟨m, fun _ => 0, ρ⟩ (fun r =>
      (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0) :=
  (θ_run (Cert.KernelIdeal.defs (F := F)) _ _).mono
    (fun _ h => ⟨fun c => (h.1 c).2.2.2, h.2⟩) (Values.run_values (F := F) m ρ)

/-- The kernel at the reals. -/
theorem frame_ideal : Cert.quiescent_KernelIdeal (hKernelIdeal := Cert.KernelIdeal.Gen.facts) :=
  fun m ρ _ => run_frame (F := Ideal) m ρ

section OneText

attribute [local instance] Cert.KernelIdeal.Gen.facts Cert.Kernel.Gen.facts

variable {F : FTy → Type} [FloatOps F]

/-- The two programs' kernel bodies are one table, -/
theorem bodies_eq : @Cert.Kernel.defs₀ F _ _ = @Cert.KernelIdeal.defs₀ F _ _ := by
  funext p ℓ a
  match p, ℓ, a with
  | .tc, 0, (t, s) => rfl
  | .scVector c s, 1, a => rfl
  | .tc, 1, a => rfl
  | .scVector c s, 0, a => rfl
  | .scScalar c, 0, a => rfl
  | .scScalar c, 1, a => rfl
  | _, ⟨n + 2, h⟩, a => exact absurd h (by omega)

/-- and so the tables with the launches' bodies in them. -/
theorem defs_eq : @Cert.Kernel.defs F _ _ = @Cert.KernelIdeal.defs F _ _ :=
  congrArg (fun D => (@Cert.KernelIdeal.sc F _).defs (Pipeline.defs (@Cert.KernelIdeal.pcfgs F _) D)) bodies_eq

end OneText

/-- The kernel at the machine's floats. -/
theorem frame_kernel : Cert.quiescent_Kernel (hKernel := Cert.Kernel.Gen.facts) := fun m ρ _ => by
  rw [defs_eq]
  exact run_frame (F := Bits) m ρ

end Cert.Proof.Frames

end
-- ==== Proof.RefRun.lean ====
/-
  The reference as one line of host operations: the distances, the choice of a code for every token, the rows at those
  codes, and the loss; and its run, which ends with every array at that line's result.
-/
module

public import proofs.«01_k».proof.Proof.Gen.ReferenceIdeal
public import Idealize.ShloMosaic.Lib.StableHlo.Run
public import Idealize.ShloMosaic.Lib.Quiescent
public import Idealize.ShloMosaic.Lib.Pipeline.Regions

@[expose] public section

noncomputable section

namespace Cert.Proof.RefRun

open Idealize.ShloMosaic Idealize.ShloMosaic.Tactic
open Idealize.SL Idealize.SL.Sem
open Cert.ReferenceIdeal Cert.ReferenceIdeal.Gen
open Idealize.ShloMosaic.TcCoe

variable {F : FTy → Type} [FloatOps F]

/-- Every token's distance from every code. -/
def scores : List (HloOp τ sig (Elt F)) :=
  [ StableHlo.binary main_arg0 main_arg0 main_v0 (mulf : (⟨S16384x64, .f32⟩ : BufTy).Contents (Elt F) → (⟨S16384x64, .f32⟩ : BufTy).Contents (Elt F) → (⟨S16384x64, .f32⟩ : BufTy).Contents (Elt F)),
    StableHlo.nullary main_cst (constant S_ .f32 0x00000000#32),
    StableHlo.binary main_v0 main_cst main_v1 ((fun x v => Host.reduceAdd x v reducesTo_S16384x64_S16384_d1 h_S_) : (⟨S16384x64, .f32⟩ : BufTy).Contents (Elt F) → (⟨S_, .f32⟩ : BufTy).Contents (Elt F) → (⟨S16384, .f32⟩ : BufTy).Contents (Elt F)),
    StableHlo.unary main_v1 main_v2 (broadcastInDim S16384x1 ![0] bcast_S16384_S16384x1_0 : (⟨S16384, .f32⟩ : BufTy).Contents (Elt F) → (⟨S16384x1, .f32⟩ : BufTy).Contents (Elt F)),
    StableHlo.binary main_arg2 main_arg2 main_v3 (mulf : (⟨S8192x64, .f32⟩ : BufTy).Contents (Elt F) → (⟨S8192x64, .f32⟩ : BufTy).Contents (Elt F) → (⟨S8192x64, .f32⟩ : BufTy).Contents (Elt F)),
    StableHlo.nullary main_cst_0 (constant S_ .f32 0x00000000#32),
    StableHlo.binary main_v3 main_cst_0 main_v4 ((fun x v => Host.reduceAdd x v reducesTo_S8192x64_S8192_d1 h_S_) : (⟨S8192x64, .f32⟩ : BufTy).Contents (Elt F) → (⟨S_, .f32⟩ : BufTy).Contents (Elt F) → (⟨S8192, .f32⟩ : BufTy).Contents (Elt F)),
    StableHlo.unary main_v4 main_v5 (broadcastInDim S1x8192 ![1] bcast_S8192_S1x8192_1 : (⟨S8192, .f32⟩ : BufTy).Contents (Elt F) → (⟨S1x8192, .f32⟩ : BufTy).Contents (Elt F)),
    StableHlo.unary main_v2 main_v6 (broadcastInDim S16384x8192 ![0, 1] bcast_S16384x1_S16384x8192_0_1 : (⟨S16384x1, .f32⟩ : BufTy).Contents (Elt F) → (⟨S16384x8192, .f32⟩ : BufTy).Contents (Elt F)),
    StableHlo.unary main_v5 main_v7 (broadcastInDim S16384x8192 ![0, 1] bcast_S1x8192_S16384x8192_0_1 : (⟨S1x8192, .f32⟩ : BufTy).Contents (Elt F) → (⟨S16384x8192, .f32⟩ : BufTy).Contents (Elt F)),
    StableHlo.binary main_v6 main_v7 main_v8 (addf : (⟨S16384x8192, .f32⟩ : BufTy).Contents (Elt F) → (⟨S16384x8192, .f32⟩ : BufTy).Contents (Elt F) → (⟨S16384x8192, .f32⟩ : BufTy).Contents (Elt F)),
    StableHlo.unary main_arg2 main_v9 ((transpose S64x8192 [1, 0] · transposes_S8192x64_S64x8192_1_0) : (⟨S8192x64, .f32⟩ : BufTy).Contents (Elt F) → (⟨S64x8192, .f32⟩ : BufTy).Contents (Elt F)),
    StableHlo.binary main_arg0 main_v9 main_v10 ((fun l r => Host.dotGeneral dot_S16384x64_S64x8192_S16384x8192_1_0_0_1_n_n none l r) : (⟨S16384x64, .f32⟩ : BufTy).Contents (Elt F) → (⟨S64x8192, .f32⟩ : BufTy).Contents (Elt F) → (⟨S16384x8192, .f32⟩ : BufTy).Contents (Elt F)),
    StableHlo.nullary main_cst_1 (constant S_ .f32 0x40000000#32),
    StableHlo.unary main_cst_1 main_v11 (broadcastInDim S16384x8192 ![] bcast_S_S16384x8192 : (⟨S_, .f32⟩ : BufTy).Contents (Elt F) → (⟨S16384x8192, .f32⟩ : BufTy).Contents (Elt F)),
    StableHlo.binary main_v11 main_v10 main_v12 (mulf : (⟨S16384x8192, .f32⟩ : BufTy).Contents (Elt F) → (⟨S16384x8192, .f32⟩ : BufTy).Contents (Elt F) → (⟨S16384x8192, .f32⟩ : BufTy).Contents (Elt F)),
    StableHlo.binary main_v8 main_v12 main_v13 (subf : (⟨S16384x8192, .f32⟩ : BufTy).Contents (Elt F) → (⟨S16384x8192, .f32⟩ : BufTy).Contents (Elt F) → (⟨S16384x8192, .f32⟩ : BufTy).Contents (Elt F)) ]

/-- The least distance of each token, and its code. -/
def pick : List (HloOp τ sig (Elt F)) :=
  [ StableHlo.TRef.nullary main_call0.v0 (iotaInDim S16384x8192 32 1),
    StableHlo.TRef.nullary main_call0.cst (constant S_ .f32 0x7F800000#32),
    StableHlo.TRef.nullary main_call0.c (constantI S_ 32 0#32),
    StableHlo.TRef.quaternary (.of main_v13 : StableHlo.TRef sig ⟨S16384x8192, .f32⟩) main_call0.v0 main_call0.cst main_call0.c main_call0.v1_0 (fun x y u v j => (Host.argReduce reducer_argmin_f32_i32 x y u v reducesTo_S16384x8192_S16384_d1 h_S_ j).1),
    StableHlo.TRef.quaternary (.of main_v13 : StableHlo.TRef sig ⟨S16384x8192, .f32⟩) main_call0.v0 main_call0.cst main_call0.c main_call0.v1_1 (fun x y u v j => (Host.argReduce reducer_argmin_f32_i32 x y u v reducesTo_S16384x8192_S16384_d1 h_S_ j).2) ]

/-- The code book's rows at those codes. -/
def fetch : List (HloOp τ sig (Elt F)) :=
  [ StableHlo.TRef.nullary main_call1.c (constantI S_ 32 0#32),
    StableHlo.TRef.unary main_call1.c main_call1.v0 (broadcastInDim S16384 ![] bcast_S_S16384),
    StableHlo.TRef.binary (.of main_v14 : StableHlo.TRef sig ⟨S16384, .i32⟩) main_call1.v0 main_call1.v1 (cmpi .slt),
    StableHlo.TRef.nullary main_call1.c_0 (constantI S_ 32 8192#32),
    StableHlo.TRef.unary main_call1.c_0 main_call1.v2 (broadcastInDim S16384 ![] bcast_S_S16384),
    StableHlo.TRef.binary (.of main_v14 : StableHlo.TRef sig ⟨S16384, .i32⟩) main_call1.v2 main_call1.v3 addi,
    StableHlo.TRef.ternary main_call1.v1 main_call1.v3 (.of main_v14 : StableHlo.TRef sig ⟨S16384, .i32⟩) main_call1.call0.v0 select,
    StableHlo.TRef.unary main_call1.call0.v0 main_call1.v5 (broadcastInDim S16384x1 ![0] bcast_S16384_S16384x1_0),
    StableHlo.TRef.nullary main_call1.c_1 (constantI S1 32 8191#32),
    StableHlo.TRef.nullary main_call1.c_2 (constantI S_ 32 0#32),
    StableHlo.TRef.unary main_call1.c_2 main_call1.v6 (broadcastInDim S16384x1 ![] bcast_S_S16384x1),
    StableHlo.TRef.binary main_call1.v5 main_call1.v6 main_call1.v7 (cmpi .sge),
    StableHlo.TRef.unary main_call1.c_1 main_call1.v8 (broadcastInDim S1x1 ![1] bcast_S1_S1x1_1),
    StableHlo.TRef.unary main_call1.v8 main_call1.v9 (broadcastInDim S16384x1 ![0, 1] bcast_S1x1_S16384x1_0_1),
    StableHlo.TRef.binary main_call1.v5 main_call1.v9 main_call1.v10 (cmpi .sle),
    StableHlo.TRef.binary main_call1.v7 main_call1.v10 main_call1.v11 andi,
    StableHlo.TRef.nullary main_call1.c_3 (constantI S_ 1 1#1),
    StableHlo.TRef.binary main_call1.v11 main_call1.c_3 main_call1.v12 (fun x v => Host.reduce IntOp.andi x v reducesTo_S16384x1_S16384_d1 h_S_),
    StableHlo.TRef.binary (.of main_arg2 : StableHlo.TRef sig ⟨S8192x64, .f32⟩) main_call1.v5 main_call1.v13 (fun x i => Host.gather gather_S8192x64_S16384x1_S16384x64_1_0_n_n_0_1_164 x i),
    StableHlo.TRef.unary main_call1.v12 main_call1.v14 (broadcastInDim S16384x64 ![0] bcast_S16384_S16384x64_0),
    StableHlo.TRef.nullary main_call1.cst (constant S_ .f32 0x7FC00000#32),
    StableHlo.TRef.unary main_call1.cst main_call1.v15 (broadcastInDim S16384x64 ![] bcast_S_S16384x64),
    StableHlo.TRef.ternary main_call1.v14 main_call1.v13 main_call1.v15 main_call1.v16 select ]

/-- The loss, and the tokens moved onto their rows. -/
def close : List (HloOp τ sig (Elt F)) :=
  [ StableHlo.binary main_v15 main_arg0 main_v16 (subf : (⟨S16384x64, .f32⟩ : BufTy).Contents (Elt F) → (⟨S16384x64, .f32⟩ : BufTy).Contents (Elt F) → (⟨S16384x64, .f32⟩ : BufTy).Contents (Elt F)),
    StableHlo.binary main_v16 main_v16 main_v17 (mulf : (⟨S16384x64, .f32⟩ : BufTy).Contents (Elt F) → (⟨S16384x64, .f32⟩ : BufTy).Contents (Elt F) → (⟨S16384x64, .f32⟩ : BufTy).Contents (Elt F)),
    StableHlo.nullary main_cst_2 (constant S_ .f32 0x00000000#32),
    StableHlo.binary main_v17 main_cst_2 main_v18 ((fun x v => Host.reduceAdd x v reducesTo_S16384x64_S_d0_1 h_S_) : (⟨S16384x64, .f32⟩ : BufTy).Contents (Elt F) → (⟨S_, .f32⟩ : BufTy).Contents (Elt F) → (⟨S_, .f32⟩ : BufTy).Contents (Elt F)),
    StableHlo.nullary main_cst_3 (constant S_ .f32 0x49800000#32),
    StableHlo.binary main_v18 main_cst_3 main_v19 (Host.divf : (⟨S_, .f32⟩ : BufTy).Contents (Elt F) → (⟨S_, .f32⟩ : BufTy).Contents (Elt F) → (⟨S_, .f32⟩ : BufTy).Contents (Elt F)),
    StableHlo.binary main_arg0 main_v15 main_v20 (subf : (⟨S16384x64, .f32⟩ : BufTy).Contents (Elt F) → (⟨S16384x64, .f32⟩ : BufTy).Contents (Elt F) → (⟨S16384x64, .f32⟩ : BufTy).Contents (Elt F)),
    StableHlo.binary main_v20 main_v20 main_v21 (mulf : (⟨S16384x64, .f32⟩ : BufTy).Contents (Elt F) → (⟨S16384x64, .f32⟩ : BufTy).Contents (Elt F) → (⟨S16384x64, .f32⟩ : BufTy).Contents (Elt F)),
    StableHlo.nullary main_cst_4 (constant S_ .f32 0x00000000#32),
    StableHlo.binary main_v21 main_cst_4 main_v22 ((fun x v => Host.reduceAdd x v reducesTo_S16384x64_S_d0_1 h_S_) : (⟨S16384x64, .f32⟩ : BufTy).Contents (Elt F) → (⟨S_, .f32⟩ : BufTy).Contents (Elt F) → (⟨S_, .f32⟩ : BufTy).Contents (Elt F)),
    StableHlo.nullary main_cst_5 (constant S_ .f32 0x49800000#32),
    StableHlo.binary main_v22 main_cst_5 main_v23 (Host.divf : (⟨S_, .f32⟩ : BufTy).Contents (Elt F) → (⟨S_, .f32⟩ : BufTy).Contents (Elt F) → (⟨S_, .f32⟩ : BufTy).Contents (Elt F)),
    StableHlo.nullary main_cst_6 (constant S_ .f32 0x3E800000#32),
    StableHlo.binary main_cst_6 main_v23 main_v24 (mulf : (⟨S_, .f32⟩ : BufTy).Contents (Elt F) → (⟨S_, .f32⟩ : BufTy).Contents (Elt F) → (⟨S_, .f32⟩ : BufTy).Contents (Elt F)),
    StableHlo.binary main_v19 main_v24 main_v25 (addf : (⟨S_, .f32⟩ : BufTy).Contents (Elt F) → (⟨S_, .f32⟩ : BufTy).Contents (Elt F) → (⟨S_, .f32⟩ : BufTy).Contents (Elt F)),
    StableHlo.binary main_v15 main_arg0 main_v26 (subf : (⟨S16384x64, .f32⟩ : BufTy).Contents (Elt F) → (⟨S16384x64, .f32⟩ : BufTy).Contents (Elt F) → (⟨S16384x64, .f32⟩ : BufTy).Contents (Elt F)),
    StableHlo.binary main_arg0 main_v26 main_v27 (addf : (⟨S16384x64, .f32⟩ : BufTy).Contents (Elt F) → (⟨S16384x64, .f32⟩ : BufTy).Contents (Elt F) → (⟨S16384x64, .f32⟩ : BufTy).Contents (Elt F)) ]

theorem scores_bufs : (scores (F := F)).Forall fun op => op.bufs ⊆ StableHlo.tcRefs τ sig :=
  ⟨StableHlo.binary_bufs_sub .., StableHlo.nullary_bufs_sub .., StableHlo.binary_bufs_sub .., StableHlo.unary_bufs_sub .., StableHlo.binary_bufs_sub .., StableHlo.nullary_bufs_sub .., StableHlo.binary_bufs_sub .., StableHlo.unary_bufs_sub .., StableHlo.unary_bufs_sub .., StableHlo.unary_bufs_sub .., StableHlo.binary_bufs_sub .., StableHlo.unary_bufs_sub .., StableHlo.binary_bufs_sub .., StableHlo.nullary_bufs_sub .., StableHlo.unary_bufs_sub .., StableHlo.binary_bufs_sub .., StableHlo.binary_bufs_sub ..⟩
theorem scores_fresh : ∀ op ∈ scores (F := F), op.fresh = ∅ := by
  refine List.forall_iff_forall_mem.mp ?_
  exact ⟨rfl, rfl, rfl, rfl, rfl, rfl, rfl, rfl, rfl, rfl, rfl, rfl, rfl, rfl, rfl, rfl, rfl⟩

theorem pick_bufs : (pick (F := F)).Forall fun op => op.bufs ⊆ StableHlo.tcRefs τ sig :=
  ⟨StableHlo.nullary_bufs_sub .., StableHlo.nullary_bufs_sub .., StableHlo.nullary_bufs_sub .., StableHlo.quaternary_bufs_sub .., StableHlo.quaternary_bufs_sub ..⟩
theorem pick_fresh : ∀ op ∈ pick (F := F), op.fresh = ∅ := by
  refine List.forall_iff_forall_mem.mp ?_
  exact ⟨rfl, rfl, rfl, rfl, rfl⟩

theorem fetch_bufs : (fetch (F := F)).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.nullary_bufs_sub .., StableHlo.nullary_bufs_sub .., StableHlo.unary_bufs_sub .., StableHlo.binary_bufs_sub .., StableHlo.unary_bufs_sub .., StableHlo.unary_bufs_sub .., StableHlo.binary_bufs_sub .., StableHlo.binary_bufs_sub .., StableHlo.nullary_bufs_sub .., StableHlo.binary_bufs_sub .., StableHlo.binary_bufs_sub .., StableHlo.unary_bufs_sub .., StableHlo.nullary_bufs_sub .., StableHlo.unary_bufs_sub .., StableHlo.ternary_bufs_sub ..⟩
theorem fetch_fresh : ∀ op ∈ fetch (F := F), op.fresh = ∅ := by
  refine List.forall_iff_forall_mem.mp ?_
  exact ⟨rfl, rfl, rfl, rfl, rfl, rfl, rfl, rfl, rfl, rfl, rfl, rfl, rfl, rfl, rfl, rfl, rfl, rfl, rfl, rfl, rfl, rfl, rfl⟩

theorem close_bufs : (close (F := F)).Forall fun op => op.bufs ⊆ StableHlo.tcRefs τ sig :=
  ⟨StableHlo.binary_bufs_sub .., StableHlo.binary_bufs_sub .., StableHlo.nullary_bufs_sub .., StableHlo.binary_bufs_sub .., StableHlo.nullary_bufs_sub .., StableHlo.binary_bufs_sub .., StableHlo.binary_bufs_sub .., StableHlo.binary_bufs_sub .., StableHlo.nullary_bufs_sub .., StableHlo.binary_bufs_sub .., StableHlo.nullary_bufs_sub .., StableHlo.binary_bufs_sub .., StableHlo.nullary_bufs_sub .., StableHlo.binary_bufs_sub .., StableHlo.binary_bufs_sub .., StableHlo.binary_bufs_sub .., StableHlo.binary_bufs_sub ..⟩
theorem close_fresh : ∀ op ∈ close (F := F), op.fresh = ∅ := by
  refine List.forall_iff_forall_mem.mp ?_
  exact ⟨rfl, rfl, rfl, rfl, rfl, rfl, rfl, rfl, rfl, rfl, rfl, rfl, rfl, rfl, rfl, rfl, rfl⟩

/-- The whole line. -/
def line : List (HloOp τ sig (Elt F)) := scores ++ (pick ++ (fetch ++ close))

theorem line_bufs : (line (F := F)).Forall fun op => op.bufs ⊆ StableHlo.tcRefs τ sig := by
  rw [List.forall_iff_forall_mem]
  intro op h
  simp only [line, List.mem_append] at h
  rcases h with h | h | h | h
  · exact List.forall_iff_forall_mem.mp scores_bufs op h
  · exact List.forall_iff_forall_mem.mp pick_bufs op h
  · exact List.forall_iff_forall_mem.mp fetch_bufs op h
  · exact List.forall_iff_forall_mem.mp close_bufs op h

theorem line_fresh : ∀ op ∈ line (F := F), op.fresh = ∅ := by
  intro op h
  simp only [line, List.mem_append] at h
  rcases h with h | h | h | h
  · exact scores_fresh op h
  · exact pick_fresh op h
  · exact fetch_fresh op h
  · exact close_fresh op h

/-- @main is that line. -/
theorem main_eq (d : Dev nD) : main (F := F) d = StableHlo.seq (line (F := F)) := by
  chain_rfl

/-- The reference's run ends with every array at the line's result, and every counter at zero. -/
theorem run_line (m : (ℓ : Loc nD τ sig) → Buf (Elt F) ℓ) (ρ : Dev nD → PrngReg) :
    θ_run (defs (F := F)) (onTc (τ := τ) (main (F := F))) ⟨m, fun _ => 0, ρ⟩ fun r =>
      (∀ (d : Dev nD) (b : Ref sig .tc), r.2.mem ((d.tc : Thread nD τ).loc b)
        = StableHlo.after (line (F := F)) (StableHlo.launchContents m d) (Proc.devRef .tc b)) ∧ r.2.sem = fun _ => 0 :=
  (θ_run (defs (F := F)) _ _).mono (fun r h => ⟨h, sem_eq_zero_of_no_sems rfl r.2⟩)
    (StableHlo.run_seq (by decide) (by decide) defs main (fun _ => line) main_eq (fun _ => line_bufs) m ρ (fun _ => line_fresh))

end Cert.Proof.RefRun

end
-- ==== Proof.RefFrames.lean ====
/-
  The reference's frames: it runs, leaves its arguments as they were and every semaphore at zero.
-/
module

public import proofs.«01_k».proof.Defs
public import proofs.«01_k».proof.Proof.RefRun

@[expose] public section

noncomputable section

namespace Cert.Proof.RefFrames

open Idealize.ShloMosaic Idealize.ShloMosaic.Tactic Idealize.SL.Sem
open Idealize.ShloMosaic.StableHlo
open Idealize.ShloMosaic.TcCoe
open Cert.ReferenceIdeal Cert.ReferenceIdeal.Gen
open Cert.Proof.RefRun

variable {F : FTy → Type} [FloatOps F]
variable (m : (ℓ : Loc nD τ sig) → Buf (Elt F) ℓ) (d : Dev nD)

/-- The three arguments are no operation's result. -/
theorem line_arg0 : after (line (F := F)) (launchContents m d) (Proc.devRef .tc main_arg0) = m ((d.tc : Thread nD τ).loc main_arg0) := by
  unfold line scores pick fetch close
  after_results
  rfl
theorem line_arg1 : after (line (F := F)) (launchContents m d) (Proc.devRef .tc main_arg1) = m ((d.tc : Thread nD τ).loc main_arg1) := by
  unfold line scores pick fetch close
  after_results
  rfl
theorem line_arg2 : after (line (F := F)) (launchContents m d) (Proc.devRef .tc main_arg2) = m ((d.tc : Thread nD τ).loc main_arg2) := by
  unfold line scores pick fetch close
  after_results
  rfl

/-- The reference's run: its results at the line's, its arguments unchanged, every semaphore at zero. -/
theorem run_results (ρ : Dev nD → PrngReg) :
    θ_run (defs (F := F)) (onTc (τ := τ) (main (F := F))) ⟨m, fun _ => 0, ρ⟩ fun r =>
      (∀ c : Dev nD, r.2.mem ((c.tc : Thread nD τ).loc main_v27) = after (line (F := F)) (launchContents m c) (Proc.devRef .tc main_v27)
        ∧ r.2.mem ((c.tc : Thread nD τ).loc main_v25) = after (line (F := F)) (launchContents m c) (Proc.devRef .tc main_v25)
        ∧ r.2.mem ((c.tc : Thread nD τ).loc main_v14) = after (line (F := F)) (launchContents m c) (Proc.devRef .tc main_v14)
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2))
      ∧ r.2.sem = fun _ => 0 :=
  (θ_run (defs (F := F)) _ _).mono (fun _ h => ⟨fun c => ⟨h.1 c main_v27, h.1 c main_v25, h.1 c main_v14,
    (h.1 c main_arg0).trans (line_arg0 m c), (h.1 c main_arg1).trans (line_arg1 m c), (h.1 c main_arg2).trans (line_arg2 m c)⟩, h.2⟩)
    (run_line m ρ)

/-- The reference at the reals. -/
theorem frame_reference : Cert.quiescent_ReferenceIdeal (hReferenceIdeal := Cert.ReferenceIdeal.Gen.facts) := fun m ρ _ =>
  (θ_run (defs (F := Ideal)) _ _).mono (fun _ h => ⟨fun c => (h.1 c).2.2.2, h.2⟩) (run_results (F := Ideal) m ρ)

end Cert.Proof.RefFrames

end
-- ==== Proof.Best.lean ====
/-
  The best of a set of codes: the one of least distance, and of those the one of least number. How a contest between the
  best of two sets gives the best of both, and what the scalar comparisons decide over the extended reals.
-/
module

public import Idealize.ShloMosaic.PureOps.Ideal
public import Idealize.ShloMosaic.PureOps.Ideal.Laws

@[expose] public section

noncomputable section

namespace Cert.Proof.Best

open Idealize.ShloMosaic

/-- `c` is the best of `S` under the distances `D`. -/
def IsBest (D : ℕ → EReal) (S : Set ℕ) (c : ℕ) : Prop :=
  c ∈ S ∧ ∀ c' ∈ S, D c < D c' ∨ (D c = D c' ∧ c ≤ c')

/-- The pair of a value and a word is the best code of `S` and its distance. -/
def Holds (D : ℕ → EReal) (S : Set ℕ) (v : EReal) (w : BitVec 32) : Prop :=
  ∃ c, IsBest D S c ∧ c < 8192 ∧ v = D c ∧ w = BitVec.ofNat 32 c

variable {D : ℕ → EReal} {S S' : Set ℕ}

/-- A set has one best code. -/
theorem IsBest.unique {c c' : ℕ} (h : IsBest D S c) (h' : IsBest D S c') : c = c' := by
  rcases h.2 c' h'.1 with a | ⟨a, b⟩ <;> rcases h'.2 c h.1 with a' | ⟨a', b'⟩
  · exact absurd (a.trans a') (lt_irrefl _)
  · exact absurd (a'.symm ▸ a) (lt_irrefl _)
  · exact absurd (a.symm ▸ a') (lt_irrefl _)
  · exact le_antisymm b b'

/-- Of two sets' best codes, the second is the best of both if it is the better, -/
theorem IsBest.union_right {c c' : ℕ} (h : IsBest D S c) (h' : IsBest D S' c')
    (hb : D c' < D c ∨ (D c' = D c ∧ c' < c)) : IsBest D (S ∪ S') c' := by
  refine ⟨Or.inr h'.1, fun x hx => ?_⟩
  rcases hx with hx | hx
  · rcases hb with hb | ⟨he, hl⟩ <;> rcases h.2 x hx with a | ⟨a, b⟩
    · exact Or.inl (hb.trans a)
    · exact Or.inl (a ▸ hb)
    · exact Or.inl (he.trans_lt a)
    · exact Or.inr ⟨he.trans a, hl.le.trans b⟩
  · exact h'.2 x hx

/-- and the first otherwise. -/
theorem IsBest.union_left {c c' : ℕ} (h : IsBest D S c) (h' : IsBest D S' c')
    (hb : ¬ (D c' < D c ∨ (D c' = D c ∧ c' < c))) : IsBest D (S ∪ S') c := by
  push Not at hb
  refine ⟨Or.inl h.1, fun x hx => ?_⟩
  rcases hx with hx | hx
  · exact h.2 x hx
  · rcases hb.1.lt_or_eq with hlt | heq <;> rcases h'.2 x hx with a | ⟨a, b⟩
    · exact Or.inl (hlt.trans a)
    · exact Or.inl (a ▸ hlt)
    · exact Or.inl (heq.trans_lt a)
    · exact Or.inr ⟨heq.trans a, (hb.2 heq.symm).trans b⟩

/-! ## The scalar comparisons -/

theorem olt_iff (x y : EReal) : (Ideal.cmp .olt x y = 1#1) ↔ x < y := by
  unfold Ideal.cmp; by_cases h : x < y <;> simp [h]

theorem oeq_iff (x y : EReal) : (Ideal.cmp .oeq x y = 1#1) ↔ x = y := by
  unfold Ideal.cmp; by_cases h : x = y <;> simp [h]

theorem une_self (x : EReal) : Ideal.cmp .une x x = 0#1 := by
  unfold Ideal.cmp; simp

theorem ori_iff (a b : BitVec 1) : IntOp.ori a b = 1#1 ↔ a = 1#1 ∨ b = 1#1 := by
  revert a b; decide

theorem andi_iff (a b : BitVec 1) : IntOp.andi a b = 1#1 ↔ a = 1#1 ∧ b = 1#1 := by
  revert a b; decide

/-- A code below 8192 as a signed word is itself. -/
theorem toInt_code {c : ℕ} (h : c < 8192) : (BitVec.ofNat 32 c).toInt = c := by
  rw [BitVec.toInt_eq_toNat_of_lt] <;> simp [BitVec.toNat_ofNat] <;> omega

theorem slt_iff {c c' : ℕ} (h : c < 8192) (h' : c' < 8192) :
    IntOp.cmpi .slt (BitVec.ofNat 32 c) (BitVec.ofNat 32 c') = 1#1 ↔ c < c' := by
  unfold IntOp.cmpi
  simp only [BitVec.slt, toInt_code h, toInt_code h']
  by_cases hc : c < c' <;> simp [hc]

/-- The contest's verdict, as one bit. -/
def beats (v' v : EReal) (w' w : BitVec 32) : BitVec 1 :=
  IntOp.ori (Ideal.cmp .olt v' v) (IntOp.andi (Ideal.cmp .oeq v' v) (IntOp.cmpi .slt w' w))

theorem beats_iff {c c' : ℕ} (h : c < 8192) (h' : c' < 8192) (v v' : EReal) :
    beats v' v (BitVec.ofNat 32 c') (BitVec.ofNat 32 c) = 1#1 ↔ (v' < v ∨ (v' = v ∧ c' < c)) := by
  unfold beats
  rw [ori_iff, andi_iff, olt_iff, oeq_iff, slt_iff h' h]

/-- A contest between the best of two sets leaves the best of both. -/
theorem Holds.contest {v v' : EReal} {w w' : BitVec 32} (h : Holds D S v w) (h' : Holds D S' v' w') :
    Holds D (S ∪ S') (Scalar.select (beats v' v w' w) v' v) (Scalar.select (beats v' v w' w) w' w) := by
  obtain ⟨c, hb, hc, rfl, rfl⟩ := h
  obtain ⟨c', hb', hc', rfl, rfl⟩ := h'
  by_cases hw : beats (D c') (D c) (BitVec.ofNat 32 c') (BitVec.ofNat 32 c) = 1#1
  · refine ⟨c', hb.union_right hb' ((beats_iff hc hc' _ _).mp hw), hc', ?_, ?_⟩ <;> simp [Scalar.select, hw]
  · refine ⟨c, hb.union_left hb' (fun hx => hw ((beats_iff hc hc' _ _).mpr hx)), hc, ?_, ?_⟩ <;> simp [Scalar.select, hw]

/-- Where every code of the second set is above the first's, a strict comparison decides the contest. -/
theorem Holds.contest_lt {v v' : EReal} {w w' : BitVec 32} (h : Holds D S v w) (h' : Holds D S' v' w')
    (hs : ∀ c ∈ S, ∀ c' ∈ S', c < c') :
    Holds D (S ∪ S') (Scalar.select (Ideal.cmp .olt v' v) v' v) (Scalar.select (Ideal.cmp .olt v' v) w' w) := by
  obtain ⟨c, hb, hc, rfl, rfl⟩ := h
  obtain ⟨c', hb', hc', rfl, rfl⟩ := h'
  have hcc := hs c hb.1 c' hb'.1
  by_cases hw : Ideal.cmp .olt (D c') (D c) = 1#1
  · refine ⟨c', hb.union_right hb' (Or.inl ((olt_iff _ _).mp hw)), hc', ?_, ?_⟩ <;> simp [Scalar.select, hw]
  · refine ⟨c, hb.union_left hb' ?_, hc, ?_, ?_⟩
    · rintro (hx | ⟨-, hx⟩)
      · exact hw ((olt_iff _ _).mpr hx)
      · omega
    · simp [Scalar.select, hw]
    · simp [Scalar.select, hw]

/-- The same over a set named otherwise. -/
theorem Holds.of_eq {T : Set ℕ} {v : EReal} {w : BitVec 32} (h : Holds D S v w) (e : S = T) : Holds D T v w := e ▸ h

end Cert.Proof.Best

end
-- ==== Proof.Reals.lean ====
/-
  The distances over the reals: a token's squared distance from a code, the two ways the kernel and the reference expand it,
  and the best code of a token.
-/
module

public import proofs.«01_k».proof.Proof.Best
public import Idealize.ShloMosaic.Lib.ValueIdx
public import Mathlib.Data.EReal.Operations
public import Mathlib.Algebra.BigOperators.Fin
public import Mathlib.Data.Prod.Lex
public import Mathlib.Tactic.Ring
public import Mathlib.Tactic.NormNum

@[expose] public section

noncomputable section

namespace Cert.Proof.Reals

open Idealize.ShloMosaic Idealize.ShloMosaic.ValueIdx
open Cert.Proof.Best

/-- Tokens and codes with real entries. -/
structure Data where
  x : Fin 16384 → Fin 64 → ℝ
  e : Fin 8192 → Fin 64 → ℝ

/-- Two arrays are the tokens and the code book of `w`. -/
structure IsData (w : Data) (x : (⟨2, ![16384, 64]⟩ : Shape).Idx → EReal) (e : (⟨2, ![8192, 64]⟩ : Shape).Idx → EReal) : Prop where
  tok : ∀ i k, x (ix2 i k) = (w.x i k : EReal)
  code : ∀ c k, e (ix2 c k) = (w.e c k : EReal)

variable (w : Data)

/-- The squared distance of token `i` from code `c`. -/
def sq (i : Fin 16384) (c : Fin 8192) : ℝ := ∑ k, (w.e c k - w.x i k) ^ 2

/-- A finite sum of reals is the same sum over the extended reals. -/
theorem coe_sum {ι : Type} (s : Finset ι) (f : ι → ℝ) : ((∑ k ∈ s, f k : ℝ) : EReal) = ∑ k ∈ s, (f k : EReal) :=
  map_sum (⟨⟨Real.toEReal, EReal.coe_zero⟩, EReal.coe_add⟩ : ℝ →+ EReal) f s

/-- The kernel's expansion: the code's norm, the token's, and the products of minus twice the code with the token. -/
theorem kernel_form (i : Fin 16384) (c : Fin 8192) :
    ((0 + ∑ k, (w.e c k : EReal) * (w.e c k : EReal)) + (0 + ∑ k, (w.x i k : EReal) * (w.x i k : EReal)))
      + ∑ k, (((-2 : ℝ) : EReal) * (w.e c k : EReal)) * (w.x i k : EReal) = (sq w i c : EReal) := by
  rw [zero_add, zero_add]
  simp only [← EReal.coe_mul, ← coe_sum, ← EReal.coe_add]
  congr 1
  unfold sq
  rw [← Finset.sum_add_distrib, ← Finset.sum_add_distrib]
  exact Finset.sum_congr rfl fun k _ => by ring

/-- The reference's: the two norms, less twice the products. -/
theorem reference_form (i : Fin 16384) (c : Fin 8192) :
    ((0 + ∑ k, (w.x i k : EReal) * (w.x i k : EReal)) + (0 + ∑ k, (w.e c k : EReal) * (w.e c k : EReal)))
      - ((2 : ℝ) : EReal) * ∑ k, (w.x i k : EReal) * (w.e c k : EReal) = (sq w i c : EReal) := by
  rw [zero_add, zero_add]
  simp only [← EReal.coe_mul, ← coe_sum, ← EReal.coe_add, ← EReal.coe_sub]
  congr 1
  unfold sq
  rw [← Finset.sum_add_distrib, Finset.mul_sum, ← Finset.sum_sub_distrib]
  exact Finset.sum_congr rfl fun k _ => by ring

/-- Token `i`'s distances, by the code's number. -/
def D (i : Fin 16384) (c : ℕ) : EReal := if h : c < 8192 then (sq w i ⟨c, h⟩ : EReal) else 0

theorem D_eq (i : Fin 16384) (c : Fin 8192) : D w i c.val = (sq w i c : EReal) := dif_pos c.isLt

theorem D_lt_top (i : Fin 16384) (c : ℕ) : D w i c < ⊤ := by
  unfold D
  split
  · exact EReal.coe_lt_top _
  · exact EReal.zero_lt_top

/-- The codes, all 8192. -/
def codeSet : Set ℕ := {c | c < 8192}

/-- Token `i` has a best code. -/
theorem exists_best (i : Fin 16384) : ∃ c : Fin 8192, IsBest (D w i) codeSet c.val := by
  obtain ⟨a, -, ha⟩ := Finset.exists_min_image (Finset.univ : Finset (Fin 8192)) (fun c => toLex (sq w i c, c)) Finset.univ_nonempty
  refine ⟨a, a.isLt, fun c hc => ?_⟩
  have h := ha ⟨c, hc⟩ (Finset.mem_univ _)
  rw [D_eq, D, dif_pos (show c < 8192 from hc)]
  rcases Prod.Lex.toLex_le_toLex.mp h with h | ⟨h1, h2⟩
  · exact Or.inl (EReal.coe_lt_coe_iff.mpr h)
  · exact Or.inr ⟨congrArg _ h1, h2⟩

/-- It. -/
def best (i : Fin 16384) : Fin 8192 := (exists_best w i).choose

theorem best_spec (i : Fin 16384) : IsBest (D w i) codeSet (best w i).val := (exists_best w i).choose_spec

/-- Whatever pair holds a token's best code and distance holds these. -/
theorem holds_best {i : Fin 16384} {v : EReal} {b : BitVec 32} (h : Holds (D w i) codeSet v b) :
    v = (sq w i (best w i) : EReal) ∧ b = BitVec.ofNat 32 (best w i).val := by
  obtain ⟨c, hc, -, rfl, rfl⟩ := h
  obtain rfl := hc.unique (best_spec w i)
  exact ⟨D_eq w i _, rfl⟩

/-- The sum over the tokens is the sum over the grid's points of the sums over their tokens. -/
theorem sum_tokens (f : Fin 16384 → EReal) :
    ∑ t : Fin 4, ∑ s : Fin 4096, f ⟨4096 * t.val + s.val, by omega⟩ = ∑ i, f i := by
  rw [← Fintype.sum_prod_type']
  refine Fintype.sum_equiv (finProdFinEquiv (m := 4) (n := 4096)) _ _ fun p => ?_
  refine congrArg f (Fin.ext ?_)
  simp [finProdFinEquiv]
  omega

/-- The loss: five fourths of the mean squared distance, as the kernel scales it and as the reference adds it up. -/
theorem loss_form (S : ℝ) :
    (S : EReal) * (((1.25 : ℝ) / 1048576 : ℝ) : EReal) = (((S / 1048576) + 0.25 * (S / 1048576) : ℝ) : EReal) := by
  rw [← EReal.coe_mul]
  congr 1
  ring

end Cert.Proof.Reals

end
-- ==== Proof.RowSums.lean ====
/-
  Sums over the extended reals, and the constants the two programs name: the sum of squares along a row, as the host adds
  it up; the sum of a whole two-axis array; and the numbers that the constants' bits are.
-/
module

public import Idealize.ShloMosaic.PureOps.Ideal.Laws
public import Idealize.ShloMosaic.Lib.ValueIdx
public import Mathlib.Tactic.NormNum

@[expose] public section

noncomputable section

namespace Cert.Proof.RowSums

open Idealize.ShloMosaic Idealize.ShloMosaic.ValueIdx

/-- The host's sum along the second axis, from zero. -/
theorem rowSum {n k : ℕ} (u : (⟨2, ![n, k]⟩ : Shape).Idx → EReal) (h : (⟨2, ![n, k]⟩ : Shape).ReducesTo [1] (⟨1, ![n]⟩ : Shape))
    (h' : (⟨2, ![n, k]⟩ : Shape).Reduces [1] (⟨1, ![n]⟩ : Shape)) (hu : 0 < (⟨0, ![]⟩ : Shape).numel) (i : Fin n) :
    Host.reduceAdd (F := Ideal) (φ := .f32) u (constant (⟨0, ![]⟩ : Shape) .f32 0x00000000#32) h hu (ix1 i) = 0 + ∑ l : Fin k, u (ix2 i l) := by
  refine (Idealize.ShloMosaic.Ideal.hostReduceAdd_single h h' u _ (ix1 i)).trans ?_
  refine congr (congrArg _ ?_) (Finset.sum_congr rfl fun l _ => congrArg u ?_)
  · exact (constant_apply _ _).trans Idealize.ShloMosaic.Ideal.ofBits_zero_f32
  · funext a
    fin_cases a <;> rfl

/-- The host's sum over both axes, from zero. -/
theorem wholeSum {n k : ℕ} (u : (⟨2, ![n, k]⟩ : Shape).Idx → EReal) (h : (⟨2, ![n, k]⟩ : Shape).ReducesTo [0, 1] (⟨0, ![]⟩ : Shape))
    (hu : 0 < (⟨0, ![]⟩ : Shape).numel) (j : (⟨0, ![]⟩ : Shape).Idx) :
    Host.reduceAdd (F := Ideal) (φ := .f32) u (constant (⟨0, ![]⟩ : Shape) .f32 0x00000000#32) h hu j = 0 + ∑ i : Fin n, ∑ l : Fin k, u (ix2 i l) := by
  refine (Idealize.ShloMosaic.Ideal.hostReduceAdd_total h (fun b => b.elim0) u _ j).trans ?_
  refine congr (congrArg _ ?_) (sum_idx2 u)
  exact (constant_apply _ _).trans Idealize.ShloMosaic.Ideal.ofBits_zero_f32

/-- A sum over an array of one row of one row is the sum along that. -/
theorem sumLast {n : ℕ} (u : (⟨3, ![1, 1, n]⟩ : Shape).Idx → EReal) : ∑ i, u i = ∑ s : Fin n, u (ix3 0 0 s) := by
  refine Fintype.sum_equiv ⟨fun i => (i 2 : Fin n), fun s => ix3 0 0 s, fun i => ?_, fun s => rfl⟩ _ _ fun i => congrArg u ?_
  · have h0 : (i 0).val < 1 := (i 0).isLt
    have h1 : (i 1).val < 1 := (i 1).isLt
    funext a
    fin_cases a
    · exact Fin.ext (show 0 = (i 0).val by omega)
    · exact Fin.ext (show 0 = (i 1).val by omega)
    · rfl
  · have h0 : (i 0).val < 1 := (i 0).isLt
    have h1 : (i 1).val < 1 := (i 1).isLt
    funext a
    fin_cases a
    · exact Fin.ext (show (i 0).val = 0 by omega)
    · exact Fin.ext (show (i 1).val = 0 by omega)
    · rfl

theorem minusTwo : Ideal.ofBits .f32 0xC0000000#32 = ((-2 : ℝ) : EReal) := by
  simp [Ideal.ofBits, Ideal.ieee, -EReal.coe_mul, -EReal.coe_neg]; norm_num

theorem two : Ideal.ofBits .f32 0x40000000#32 = ((2 : ℝ) : EReal) := by
  simp [Ideal.ofBits, Ideal.ieee, -EReal.coe_mul]; norm_num

theorem quarter : Ideal.ofBits .f32 0x3E800000#32 = ((0.25 : ℝ) : EReal) := by
  simp [Ideal.ofBits, Ideal.ieee, -EReal.coe_mul]; norm_num

/-- The number of elements of the tokens, -/
theorem elements : Ideal.ofBits .f32 0x49800000#32 = ((1048576 : ℝ) : EReal) := by
  simp [Ideal.ofBits, Ideal.ieee, -EReal.coe_mul]; norm_num

/-- and five fourths over it. -/
theorem scale : Ideal.ofBits .f32 0x35A00000#32 = (((1.25 : ℝ) / 1048576 : ℝ) : EReal) := by
  simp [Ideal.ofBits, Ideal.ieee, -EReal.coe_mul]; norm_num

theorem infinity : Ideal.ofBits .f32 0x7F800000#32 = ⊤ := by
  simp [Ideal.ofBits, Ideal.ieee]

end Cert.Proof.RowSums

end
-- ==== Proof.Finite.lean ====
/-
  The precondition, read: arrays it holds of are the tokens and the code book of some real data.
-/
module

public import proofs.«01_k».proof.Pre_finite_inputs
public import proofs.«01_k».proof.Proof.Reals
public import proofs.«01_k».proof.Proof.RowSums
public import Idealize.ShloMosaic.Lib.ValueLayout
public import Idealize.ShloMosaic.Lib.KernelVsHost

@[expose] public section

noncomputable section

namespace Cert.Proof.Finite

open Idealize.ShloMosaic Idealize.ShloMosaic.ValueIdx
open Cert.Pre_finite_inputs
open Cert.Proof.Reals

/-- The shapes the precondition's operations need. -/
theorem facts : Cert.Pre_finite_inputs.Facts where
  bcast_S_S16384x64 := by decide
  reducesTo_S16384x64_S_d0_1 := by decide
  h_S_ := by decide
  bcast_S_S8192x64 := by decide
  reducesTo_S8192x64_S_d0_1 := by decide

/-- A conjunction along a list is one only if every member is. -/
theorem and_list {ι : Type} (g : ι → BitVec 1) (l : List ι) :
    ∀ a : BitVec 1, l.foldl (fun r n => IntOp.andi r (g n)) a = 1#1 → a = 1#1 ∧ ∀ n ∈ l, g n = 1#1 := by
  induction l with
  | nil => exact fun a h => ⟨h, fun n hn => by cases hn⟩
  | cons b l ih =>
    intro a h
    have h1 := ih _ h
    have h2 := (Best.andi_iff _ _).mp h1.1
    exact ⟨h2.1, fun n hn => by
      rcases List.mem_cons.mp hn with rfl | hn
      · exact h2.2
      · exact h1.2 n hn⟩

/-- A conjunction over a whole array is one only if every element is. -/
theorem and_array {s : Shape} {axes : List (Fin s.rank)} (x : s.Idx → BitVec 1) (v : S_.Idx → BitVec 1) (h : s.ReducesTo axes S_)
    (hu : 0 < S_.numel) (j : S_.Idx) (hr : Host.reduce IntOp.andi x v h hu j = 1#1) (i : s.Idx) : x i = 1#1 := by
  have := (and_list _ _ _ hr).2 (s.rowMajor i) (List.mem_filter.mpr ⟨List.mem_finRange _, decide_eq_true (funext fun a => a.elim0)⟩)
  rwa [Equiv.symm_apply_apply] at this

/-- A value of absolute value below infinity is real. -/
theorem real_of_abs {a : EReal} (h : max a (-a) < ⊤) : a = (a.toReal : EReal) := by
  refine (EReal.coe_toReal ?_ ?_).symm
  · rintro rfl
    simp at h
  · rintro rfl
    simp at h

/-- An element that passes the test is real. -/
theorem real_of_test {s : Shape} (x : FVec Ideal s .f32) (hb : S_.BroadcastsInDim s ![]) (i : s.Idx)
    (h : cmpf .olt (Host.absf x) (broadcastInDim s ![] hb (constant (F := Ideal) S_ .f32 0x7F800000#32)) i = 1#1) :
    (x i : EReal) = ((x i : EReal).toReal : EReal) := by
  rw [cmpf_apply] at h
  have hi : broadcastInDim s ![] hb (constant (F := Ideal) S_ .f32 0x7F800000#32) i = (⊤ : EReal) :=
    (broadcastInDim_apply _ _ _ _ ix0 (fun a => a.elim0)).trans ((constant_apply _ _).trans RowSums.infinity)
  rw [hi] at h
  exact real_of_abs ((Best.olt_iff _ _).mp h)

/-- Where the precondition holds, the tokens and the code book are real. -/
theorem isData_of_pre [Cert.Pre_finite_inputs.Facts] (x v : FVec Ideal S16384x64 .f32) (e : FVec Ideal S8192x64 .f32)
    (h : Cert.Pre_finite_inputs.fn (F := Ideal) x v e = fun _ => 1#1) : ∃ w : Data, IsData w x e := by
  have h0 := (Best.andi_iff _ _).mp (congrFun h ix0)
  exact ⟨⟨fun i k => (x (ix2 i k) : EReal).toReal, fun c k => (e (ix2 c k) : EReal).toReal⟩,
    fun i k => real_of_test x _ (ix2 i k) (and_array _ _ _ _ ix0 h0.1 _),
    fun c k => real_of_test e _ (ix2 c k) (and_array _ _ _ _ ix0 h0.2 _)⟩

end Cert.Proof.Finite

end
-- ==== Proof.Distances.lean ====
/-
  The distances that one grid point of the argmin kernel computes, over the extended reals and one at a time: the code's
  squared norm, plus the token's, plus the sum of the products of the point's two operands' rows.
-/
module

public import proofs.«01_k».proof.Proof.Point
public import Idealize.ShloMosaic.Lib.ValueIdx
public import Idealize.ShloMosaic.Lib.Pipeline.Value
public import Idealize.ShloMosaic.Lib.ValueLayout
public import Idealize.ShloMosaic.PureOps.Ideal.Laws

@[expose] public section

noncomputable section

namespace Cert.Proof.Distances

open Idealize.ShloMosaic Idealize.ShloMosaic.ValueIdx
open Cert.KernelIdeal
open Cert.KernelIdeal.Facts₀ Cert.KernelIdeal.Facts
open Cert.Proof.Scan Cert.Proof.Point

variable [Facts]

/-- The code's distance from the token, as the point computes it. -/
def pointD (xx : S1x1x4096.Idx → EReal) (n : S8192x1.Idx → EReal) (x : S4096x64.Idx → EReal) (e : S8192x64.Idx → EReal)
    (s : Fin 4096) (c : Fin 8192) : EReal :=
  (n (ix2 c 0) + xx (ix3 0 0 s)) + ∑ k : Fin 64, e (ix2 c k) * x (ix2 s k)

/-- The row of chunk `j` at a place in the chunk. -/
def rowIn (j : Fin 8) (i : Fin 1024) : Fin 8192 := ⟨1024 * j.val + i.val, by omega⟩

theorem bookRows_apply (e : S8192x64.Idx → Elt Ideal .bf16) (j : Fin 8) (i : Fin 1024) (k : Fin 64) :
    bookRows e j (ix2 i k) = e (ix2 (rowIn j i) k) := by
  unfold bookRows
  refine congrArg e (funext fun a => Fin.ext ?_)
  fin_cases a <;> simp [Rect.emb, Rect.unit, ix2, rowIn]

theorem normRows_apply (n : S8192x1.Idx → Elt Ideal .f32) (j : Fin 8) (i : Fin 1024) :
    normRows n j (ix2 i 0) = n (ix2 (rowIn j i) 0) := by
  unfold normRows
  refine congrArg n (funext fun a => Fin.ext ?_)
  fin_cases a <;> simp [Rect.emb, Rect.unit, ix2, rowIn]

/-- The token's squared norm. -/
theorem tokenNorm_apply (xx : Vec Ideal S1x1x4096 .f32) (s : Fin 4096) : tokenNorm xx (ix2 0 s) = xx (ix3 0 0 s) := by
  unfold tokenNorm
  rw [shapeCast_self]
  exact shapeCast_apply _ _ _ _ (by simp [Shape.rowMajor_val_two, Shape.rowMajor_val_three, ix2, ix3])

theorem contr_rank : (dot_S1024x64_S4096x64_S1024x4096_1_1_0_0_n_n).contr.rank = 1 := rfl

/-- The contraction runs over the 64 columns. -/
def colEquiv : (dot_S1024x64_S4096x64_S1024x4096_1_1_0_0_n_n).contr.Idx ≃ Fin 64 := contrEquiv1 _ 64 rfl rfl

theorem colEquiv_symm (k : Fin 64) : ((colEquiv.symm k) ⟨0, by decide⟩ : ℕ) = k.val := contrEquiv1_symm_val _ 64 rfl rfl k

theorem lhs_at (i : Fin 1024) (s : Fin 4096) (k : Fin 64) :
    (dot_S1024x64_S4096x64_S1024x4096_1_1_0_0_n_n).lhsIdx (ix2 i s) (colEquiv.symm k) = ix2 i k := by
  funext a
  apply Fin.ext
  fin_cases a
  · rfl
  · exact colEquiv_symm k

theorem rhs_at (i : Fin 1024) (s : Fin 4096) (k : Fin 64) :
    (dot_S1024x64_S4096x64_S1024x4096_1_1_0_0_n_n).rhsIdx (ix2 i s) (colEquiv.symm k) = ix2 s k := by
  funext a
  apply Fin.ext
  fin_cases a
  · rfl
  · exact colEquiv_symm k

/-- The products of a chunk's codes with the tokens. -/
theorem cross_apply (x : Vec Ideal S4096x64 .bf16) (e : Vec Ideal S1024x64 .bf16) (i : Fin 1024) (s : Fin 4096) :
    cross x e (ix2 i s) = ∑ k : Fin 64, (e (ix2 i k) * x (ix2 s k) : EReal) := by
  unfold cross
  rw [shapeCast_self, shapeCast_self]
  simp only [matmul]
  rw [Idealize.ShloMosaic.Ideal.matmul_constant_zero_apply]
  rw [← Equiv.sum_comp colEquiv.symm]
  exact Finset.sum_congr rfl fun k _ => by rw [lhs_at, rhs_at]

/-- The place in its chunk of sublane `a` of group `r`. -/
def placeIn (r : ℕ) (a : Fin 8) : Fin 1024 := ⟨8 * (r % 128) + a.val, by omega⟩

/-- The distances of a group whose chunk is `j`. -/
theorem group_apply (xx : Vec Ideal S1x1x4096 .f32) (n : S8192x1.Idx → Elt Ideal .f32) (x : Vec Ideal S4096x64 .bf16)
    (e : S8192x64.Idx → Elt Ideal .bf16) (j : Fin 8) (r : ℕ) (a : Fin 8) (s : Fin 4096) :
    groupDist (tokenNorm xx) (codeNorm (normRows n j)) (cross x (bookRows e j)) r (ix2 a s)
      = pointD xx n x e s (rowIn j (placeIn r a)) := by
  unfold groupDist
  rw [addf_apply, addf_apply]
  rw [broadcastTo_apply _ broadcasts_S8x1_S8x4096 (ix2 a s) (ix2 a 0 : S8x1.Idx) (fun i => by fin_cases i <;> rfl)]
  rw [extractStridedSlice_apply ![8 * (r % 128), 0] _ (slices_norm r) (ix2 a 0) (ix2 (placeIn r a) 0) (fun i => by fin_cases i <;> rfl)]
  rw [broadcastTo_1b_ab_apply (tokenNorm xx) broadcasts_S1x4096_S8x4096 a s, tokenNorm_apply]
  rw [extractStridedSlice_apply ![8 * (r % 128), 0] _ (slices_prod r) (ix2 a s) (ix2 (placeIn r a) s) (fun i => by fin_cases i <;> simp [ix2, placeIn])]
  rw [cross_apply]
  unfold codeNorm
  rw [shapeCast_self, normRows_apply]
  unfold pointD
  exact congrArg (_ + ·) (Finset.sum_congr rfl fun k _ => by rw [bookRows_apply])

/-- The first half's distances, -/
theorem distA_apply (xx : Vec Ideal S1x1x4096 .f32) (n : S8192x1.Idx → Elt Ideal .f32) (x : Vec Ideal S4096x64 .bf16)
    (e : S8192x64.Idx → Elt Ideal .bf16) (a : Fin 8) (s : Fin 4096) (r : ℕ) (hr : r < 512) :
    distA xx n x e r (ix2 a s) = pointD xx n x e s ⟨8 * (0 + r) + a.val, by omega⟩ := by
  unfold distA halfDist
  have hq : r / 128 < 4 := by omega
  obtain ⟨q, hq'⟩ : ∃ q, r / 128 = q := ⟨_, rfl⟩
  rw [hq'] at hq ⊢
  have e0 : ∀ j : Fin 8, j.val = q → (⟨8 * (0 + r) + a.val, by omega⟩ : Fin 8192) = rowIn j (placeIn r a) := fun j hj =>
    Fin.ext (by simp only [rowIn, placeIn]; omega)
  rcases (by omega : q = 0 ∨ q = 1 ∨ q = 2 ∨ q = 3) with rfl | rfl | rfl | rfl
  · rw [e0 0 rfl]; exact group_apply xx n x e 0 r a s
  · rw [e0 1 rfl]; exact group_apply xx n x e 1 r a s
  · rw [e0 2 rfl]; exact group_apply xx n x e 2 r a s
  · rw [e0 3 rfl]; exact group_apply xx n x e 3 r a s

/-- and the second's. -/
theorem distB_apply (xx : Vec Ideal S1x1x4096 .f32) (n : S8192x1.Idx → Elt Ideal .f32) (x : Vec Ideal S4096x64 .bf16)
    (e : S8192x64.Idx → Elt Ideal .bf16) (a : Fin 8) (s : Fin 4096) (r : ℕ) (hr : r < 512) :
    distB xx n x e r (ix2 a s) = pointD xx n x e s ⟨8 * (512 + r) + a.val, by omega⟩ := by
  unfold distB halfDist
  have hq : r / 128 < 4 := by omega
  obtain ⟨q, hq'⟩ : ∃ q, r / 128 = q := ⟨_, rfl⟩
  rw [hq'] at hq ⊢
  have e0 : ∀ j : Fin 8, j.val = 4 + q → (⟨8 * (512 + r) + a.val, by omega⟩ : Fin 8192) = rowIn j (placeIn r a) := fun j hj =>
    Fin.ext (by simp only [rowIn, placeIn]; omega)
  rcases (by omega : q = 0 ∨ q = 1 ∨ q = 2 ∨ q = 3) with rfl | rfl | rfl | rfl
  · rw [e0 4 rfl]; exact group_apply xx n x e 4 r a s
  · rw [e0 5 rfl]; exact group_apply xx n x e 5 r a s
  · rw [e0 6 rfl]; exact group_apply xx n x e 6 r a s
  · rw [e0 7 rfl]; exact group_apply xx n x e 7 r a s

end Cert.Proof.Distances

end
-- ==== Proof.Entries.lean ====
/-
  What the argmin kernel's arrays hold at its entry when the tokens and the code book are real: squared norms, the tokens
  themselves, and minus twice the codes. With them a distance that a grid point computes is the squared distance.
-/
module

public import proofs.«01_k».proof.Proof.Values
public import proofs.«01_k».proof.Proof.Reals
public import proofs.«01_k».proof.Proof.RowSums
public import proofs.«01_k».proof.Proof.Distances

@[expose] public section

noncomputable section

namespace Cert.Proof.Entries

open Idealize.ShloMosaic Idealize.ShloMosaic.ValueIdx
open Cert.KernelIdeal Cert.KernelIdeal.Gen
open Cert.Proof.Launch Cert.Proof.Values Cert.Proof.Reals Cert.Proof.Exit
open Cert.Proof.Region (blockAt)

variable {m : (ℓ : Loc nD τ sig) → Buf (Elt Ideal) ℓ} {d : Dev nD} {w : Data}

theorem tokenReduces : S16384x64.Reduces [1] S16384 := by decide
theorem codeReduces : S8192x64.Reduces [1] S8192 := by decide

theorem at_v2 (hw : IsData w (tokens m d) (bookArg m d)) (t : Fin grid0.N) (s : Fin 4096) :
    atEntry m d (Proc.devRef .tc main_v2) (ix3 ⟨t.val, lt4 t⟩ 0 s : S4x1x4096.Idx)
      = 0 + ∑ k, (w.x (token t s) k : EReal) * (w.x (token t s) k : EReal) := by
  rw [entry_v2]
  refine (shapeCast_apply (s := S16384) (t := S4x1x4096) _ _ _ (ix1 (token t s)) ?_).trans ?_
  · have := lt4 t
    simp [Shape.rowMajor_val_one, Shape.rowMajor_val_three, ix1, ix3, token]
    omega
  · refine (RowSums.rowSum _ _ tokenReduces _ _).trans ?_
    refine congrArg _ (Finset.sum_congr rfl fun k _ => ?_)
    rw [mulf_apply, hw.tok]

theorem at_v5 (hw : IsData w (tokens m d) (bookArg m d)) (c : Fin 8192) :
    atEntry m d (Proc.devRef .tc main_v5) (ix2 c 0 : S8192x1.Idx) = 0 + ∑ k, (w.e c k : EReal) * (w.e c k : EReal) := by
  rw [entry_v5]
  refine (shapeCast_apply (s := S8192) (t := S8192x1) _ _ _ (ix1 c) ?_).trans ?_
  · simp [Shape.rowMajor_val_one, Shape.rowMajor_val_two, ix1, ix2]
  · refine (RowSums.rowSum _ _ codeReduces _ _).trans ?_
    refine congrArg _ (Finset.sum_congr rfl fun k _ => ?_)
    rw [mulf_apply, hw.code]

theorem at_v6 (hw : IsData w (tokens m d) (bookArg m d)) (i : Fin 16384) (k : Fin 64) :
    atEntry m d (Proc.devRef .tc main_v6) (ix2 i k : S16384x64.Idx) = (w.x i k : EReal) := by
  rw [entry_v6]
  exact hw.tok i k

theorem at_v9 (hw : IsData w (tokens m d) (bookArg m d)) (c : Fin 8192) (k : Fin 64) :
    atEntry m d (Proc.devRef .tc main_v9) (ix2 c k : S8192x64.Idx) = ((-2 : ℝ) : EReal) * (w.e c k : EReal) := by
  rw [entry_v9]
  show (mulf (F := Ideal) (φ := .f32) _ _) (ix2 c k : S8192x64.Idx) = _
  rw [mulf_apply, hw.code, broadcastInDim_apply _ _ _ _ ix0 (fun a => a.elim0), constant_apply, RowSums.minusTwo]

/-- The distance of a code from a token of point `t`, as the point computes it, is the squared distance. -/
theorem pointD_eq (hw : IsData w (tokens m d) (bookArg m d)) (t : Fin grid0.N) (s : Fin 4096) (c : Fin 8192) :
    Distances.pointD (blockAt (atEntry m d) d 0 t) (blockAt (atEntry m d) d 1 t) (blockAt (atEntry m d) d 2 t) (blockAt (atEntry m d) d 3 t) s c
      = D w (token t s) c.val := by
  rw [D_eq, ← kernel_form]
  refine congr (congrArg _ (congr (congrArg _ ?_) ?_)) (Finset.sum_congr rfl fun k _ => congr (congrArg _ ?_) ?_)
  · exact (block1 d (atEntry m d) t c).trans (at_v5 hw c)
  · exact (block0 d (atEntry m d) t s).trans (at_v2 hw t s)
  · exact (block3 d (atEntry m d) t c k).trans (at_v9 hw c k)
  · exact (block2 d (atEntry m d) t s k).trans (at_v6 hw _ k)

end Cert.Proof.Entries

end
-- ==== Proof.KernelBest.lean ====
/-
  What one grid point of the argmin kernel picks, over the extended reals: from distances that are all below infinity, the
  scan keeps per sublane the best of its codes, the playoffs the best of a half's, and the two halves the best of all 8192.
-/
module

public import proofs.«01_k».proof.Proof.Scan
public import proofs.«01_k».proof.Proof.Best
public import Idealize.ShloMosaic.Lib.ValueIdx
public import Idealize.ShloMosaic.Lib.Pipeline.Value

@[expose] public section

noncomputable section

namespace Cert.Proof.KernelBest

open Idealize.ShloMosaic Idealize.ShloMosaic.ValueIdx
open Cert.KernelIdeal
open Cert.KernelIdeal.Facts₀ Cert.KernelIdeal.Facts
open Cert.Proof.Scan Cert.Proof.Best

variable [Facts]

/-! ## The scan -/

/-- After some groups, the scan holds the first least distance of a sublane and token, and its group. -/
theorem scan_least (d : ℕ → FVec Ideal S8x4096 .f32) (p : S8x4096.Idx) (base : ℕ) : ∀ k, (∀ r < k + 1, d r p < (⊤ : EReal)) →
    ∃ r0, r0 < k + 1 ∧ least d (k + 1) p = d r0 p ∧ leastAt d base (k + 1) p = BitVec.ofNat 32 (base + r0)
      ∧ (∀ r < k + 1, (d r0 p : EReal) ≤ d r p) ∧ (∀ r < r0, (d r0 p : EReal) < d r p)
  | 0, hf => by
    have hw : Ideal.cmp .olt (d 0 p) (Ideal.ofBits .f32 0x7F800000#32) = 1#1 := by
      rw [olt_iff]
      have : Ideal.ofBits .f32 0x7F800000#32 = ⊤ := by simp [Ideal.ofBits, Ideal.ieee]
      rw [this]; exact hf 0 (by omega)
    refine ⟨0, by omega, ?_, ?_, ?_, ?_⟩
    · show Scalar.select (Ideal.cmp .olt (d 0 p) (Ideal.ofBits .f32 0x7F800000#32)) (d 0 p) _ = _
      rw [hw]; rfl
    · show Scalar.select (Ideal.cmp .olt (d 0 p) (Ideal.ofBits .f32 0x7F800000#32)) (BitVec.ofNat 32 (base + 0)) _ = _
      rw [hw]; rfl
    · intro r hr
      obtain rfl : r = 0 := by omega
      exact le_rfl
    · intro r hr; omega
  | k + 1, hf => by
    obtain ⟨r0, h0, hl, hg, hle, hlt⟩ := scan_least d p base k (fun r hr => hf r (by omega))
    have e1 : least d (k + 1 + 1) p = Scalar.select (Ideal.cmp .olt (d (k + 1) p) (least d (k + 1) p)) (d (k + 1) p) (least d (k + 1) p) := rfl
    have e2 : leastAt d base (k + 1 + 1) p = Scalar.select (Ideal.cmp .olt (d (k + 1) p) (least d (k + 1) p)) (BitVec.ofNat 32 (base + (k + 1))) (leastAt d base (k + 1) p) := rfl
    rw [hl] at e1 e2
    by_cases hw : Ideal.cmp .olt (d (k + 1) p) (d r0 p) = 1#1
    · have hlt' := (olt_iff _ _).mp hw
      rw [hw] at e1 e2
      refine ⟨k + 1, by omega, e1, e2, fun r hr => ?_, fun r hr => ?_⟩
      · rcases Nat.lt_succ_iff_lt_or_eq.mp hr with h | rfl
        · exact hlt'.le.trans (hle r h)
        · exact le_rfl
      · exact hlt'.trans_le (hle r hr)
    · have hge : (d r0 p : EReal) ≤ d (k + 1) p := not_lt.mp fun hx => hw ((olt_iff _ _).mpr hx)
      refine ⟨r0, by omega, ?_, ?_, fun r hr => ?_, hlt⟩
      · rw [e1]; simp [Scalar.select, hw]
      · rw [e2, hg]; simp [Scalar.select, hw]
      · rcases Nat.lt_succ_iff_lt_or_eq.mp hr with h | rfl
        · exact hle r h
        · exact hge

/-- The codes that sublane `a` of a half meets. -/
def sublane (base a : ℕ) : Set ℕ := {c | ∃ r < 512, c = 8 * (base + r) + a}

/-- A sublane's code as a word. -/
theorem code_word (base r0 : ℕ) (a : Fin 8) :
    BitVec.ofNat 32 (base + r0) * 8#32 + BitVec.ofNat 32 (0 * 8 + a.val) = BitVec.ofNat 32 (8 * (base + r0) + a.val) := by
  apply BitVec.eq_of_toNat_eq
  simp only [BitVec.toNat_add, BitVec.toNat_mul, BitVec.toNat_ofNat]
  omega

/-- After all its groups, a sublane holds the best of its codes. -/
theorem sublane_best {D : ℕ → EReal} (d : ℕ → FVec Ideal S8x4096 .f32) (base : ℕ) (hbase : base ≤ 512) (a : Fin 8) (s : Fin 4096)
    (hd : ∀ r < 512, d r (ix2 a s) = D (8 * (base + r) + a.val)) (hf : ∀ c < 8192, D c < ⊤) :
    Holds D (sublane base a.val) (least d 512 (ix2 a s)) (codes (leastAt d base 512) (ix2 a s)) := by
  have ha := a.isLt
  obtain ⟨r0, h0, hl, hg, hle, hlt⟩ := scan_least d (ix2 a s) base 511 (fun r hr => by
    rw [hd r hr]; exact hf _ (by omega))
  refine ⟨8 * (base + r0) + a.val, ⟨⟨r0, h0, rfl⟩, ?_⟩, by omega, hl.trans (hd r0 h0), ?_⟩
  · rintro c ⟨r, hr, rfl⟩
    by_cases hrr : r < r0
    · have := hlt r hrr
      rw [hd r hr, hd r0 h0] at this
      exact Or.inl this
    · have := hle r hr
      rw [hd r hr, hd r0 h0] at this
      rcases this.lt_or_eq with h | h
      · exact Or.inl h
      · exact Or.inr ⟨h, by omega⟩
  · show leastAt d base 512 (ix2 a s) * 8#32 + BitVec.ofNat 32 (0 * 8 + a.val) = _
    rw [hg]
    exact code_word base r0 a

/-! ## The playoffs -/

theorem slice8 {α : Type} (off : ℕ) (u : S8x4096.Idx → α) (h : S8x4096.Slices ![off, 0] S4x4096) (a : Fin 4) (b : Fin 8) (s : Fin 4096)
    (hb : b.val = off + a.val) : extractStridedSlice S4x4096 ![off, 0] u h (ix2 a s) = u (ix2 b s) :=
  extractStridedSlice_apply _ u h _ _ (fun i => by fin_cases i <;> simp [ix2, hb])

theorem slice4 {α : Type} (off : ℕ) (u : S4x4096.Idx → α) (h : S4x4096.Slices ![off, 0] S2x4096) (a : Fin 2) (b : Fin 4) (s : Fin 4096)
    (hb : b.val = off + a.val) : extractStridedSlice S2x4096 ![off, 0] u h (ix2 a s) = u (ix2 b s) :=
  extractStridedSlice_apply _ u h _ _ (fun i => by fin_cases i <;> simp [ix2, hb])

theorem slice2 {α : Type} (off : ℕ) (u : S2x4096.Idx → α) (h : S2x4096.Slices ![off, 0] S1x4096) (a : Fin 1) (b : Fin 2) (s : Fin 4096)
    (hb : b.val = off + a.val) : extractStridedSlice S1x4096 ![off, 0] u h (ix2 a s) = u (ix2 b s) :=
  extractStridedSlice_apply _ u h _ _ (fun i => by fin_cases i <;> simp [ix2, hb])

variable {D : ℕ → EReal}

/-- Two sublanes of eight played off, -/
theorem play8 {S S' : Set ℕ} (v : FVec Ideal S8x4096 .f32) (c : IVec S8x4096 32) (s : Fin 4096) (a : Fin 4) (b b' : Fin 8)
    (hb : b.val = 0 + a.val) (hb' : b'.val = 4 + a.val)
    (h : Holds D S (v (ix2 b s)) (c (ix2 b s))) (h' : Holds D S' (v (ix2 b' s)) (c (ix2 b' s))) :
    Holds D (S ∪ S') (to4 (win8 v c) v (ix2 a s)) (to4 (win8 v c) c (ix2 a s)) := by
  have := h.contest h'
  rw [← slice8 0 v slices_S8x4096_o0_0_S4x4096 a b s hb, ← slice8 4 v slices_S8x4096_o4_0_S4x4096 a b' s hb',
    ← slice8 0 c slices_S8x4096_o0_0_S4x4096 a b s hb, ← slice8 4 c slices_S8x4096_o4_0_S4x4096 a b' s hb'] at this
  exact this

/-- two of four, -/
theorem play4 {S S' : Set ℕ} (v : FVec Ideal S4x4096 .f32) (c : IVec S4x4096 32) (s : Fin 4096) (a : Fin 2) (b b' : Fin 4)
    (hb : b.val = 0 + a.val) (hb' : b'.val = 2 + a.val)
    (h : Holds D S (v (ix2 b s)) (c (ix2 b s))) (h' : Holds D S' (v (ix2 b' s)) (c (ix2 b' s))) :
    Holds D (S ∪ S') (to2 (win4 v c) v (ix2 a s)) (to2 (win4 v c) c (ix2 a s)) := by
  have := h.contest h'
  rw [← slice4 0 v slices_S4x4096_o0_0_S2x4096 a b s hb, ← slice4 2 v slices_S4x4096_o2_0_S2x4096 a b' s hb',
    ← slice4 0 c slices_S4x4096_o0_0_S2x4096 a b s hb, ← slice4 2 c slices_S4x4096_o2_0_S2x4096 a b' s hb'] at this
  exact this

/-- and the last two. -/
theorem play2 {S S' : Set ℕ} (v : FVec Ideal S2x4096 .f32) (c : IVec S2x4096 32) (s : Fin 4096)
    (h : Holds D S (v (ix2 0 s)) (c (ix2 0 s))) (h' : Holds D S' (v (ix2 1 s)) (c (ix2 1 s))) :
    Holds D (S ∪ S') (to1 (win2 v c) v (ix2 0 s)) (to1 (win2 v c) c (ix2 0 s)) := by
  have := h.contest h'
  rw [← slice2 0 v slices_S2x4096_o0_0_S1x4096 0 0 s rfl, ← slice2 1 v slices_S2x4096_o1_0_S1x4096 0 1 s rfl,
    ← slice2 0 c slices_S2x4096_o0_0_S1x4096 0 0 s rfl, ← slice2 1 c slices_S2x4096_o1_0_S1x4096 0 1 s rfl] at this
  exact this

/-- The codes of a half. -/
def half (base : ℕ) : Set ℕ := {c | 8 * base ≤ c ∧ c < 8 * base + 4096}

/-- The sublanes' codes are the half's. -/
theorem half_eq (base : ℕ) :
    ((sublane base 0 ∪ sublane base 4) ∪ (sublane base 2 ∪ sublane base 6)) ∪ ((sublane base 1 ∪ sublane base 5) ∪ (sublane base 3 ∪ sublane base 7))
      = half base := by
  ext c
  simp only [sublane, half, Set.mem_union, Set.mem_setOf_eq]
  constructor
  · rintro (((⟨r, h, rfl⟩ | ⟨r, h, rfl⟩) | (⟨r, h, rfl⟩ | ⟨r, h, rfl⟩)) | ((⟨r, h, rfl⟩ | ⟨r, h, rfl⟩) | (⟨r, h, rfl⟩ | ⟨r, h, rfl⟩))) <;> omega
  · rintro ⟨h1, h2⟩
    have key : ∀ a, c % 8 = a → ∃ r < 512, c = 8 * (base + r) + a := fun a ha => ⟨c / 8 - base, by omega, by omega⟩
    have hm : c % 8 < 8 := Nat.mod_lt _ (by omega)
    rcases (by omega : c % 8 = 0 ∨ c % 8 = 1 ∨ c % 8 = 2 ∨ c % 8 = 3 ∨ c % 8 = 4 ∨ c % 8 = 5 ∨ c % 8 = 6 ∨ c % 8 = 7) with h | h | h | h | h | h | h | h
    · exact .inl (.inl (.inl (key _ h)))
    · exact .inr (.inl (.inl (key _ h)))
    · exact .inl (.inr (.inl (key _ h)))
    · exact .inr (.inr (.inl (key _ h)))
    · exact .inl (.inl (.inr (key _ h)))
    · exact .inr (.inl (.inr (key _ h)))
    · exact .inl (.inr (.inr (key _ h)))
    · exact .inr (.inr (.inr (key _ h)))

/-- A half's playoffs leave the best of the half's codes. -/
theorem half_best (d : ℕ → FVec Ideal S8x4096 .f32) (base : ℕ) (hbase : base ≤ 512) (s : Fin 4096)
    (hd : ∀ (a : Fin 8), ∀ r < 512, d r (ix2 a s) = D (8 * (base + r) + a.val)) (hf : ∀ c < 8192, D c < ⊤) :
    Holds D (half base) (halfV (least d 512) (codes (leastAt d base 512)) (ix2 0 s)) (halfC (least d 512) (codes (leastAt d base 512)) (ix2 0 s)) := by
  have h8 := fun a : Fin 8 => sublane_best d base hbase a s (hd a) hf
  have h40 := play8 _ _ s 0 0 4 rfl rfl (h8 0) (h8 4)
  have h41 := play8 _ _ s 1 1 5 rfl rfl (h8 1) (h8 5)
  have h42 := play8 _ _ s 2 2 6 rfl rfl (h8 2) (h8 6)
  have h43 := play8 _ _ s 3 3 7 rfl rfl (h8 3) (h8 7)
  have h20 := play4 _ _ s 0 0 2 rfl rfl h40 h42
  have h21 := play4 _ _ s 1 1 3 rfl rfl h41 h43
  exact (play2 _ _ s h20 h21).of_eq (half_eq base)

/-- All the codes. -/
def all : Set ℕ := {c | c < 8192}

theorem all_eq : half 0 ∪ half 512 = all := by
  ext c
  simp only [half, all, Set.mem_union, Set.mem_setOf_eq]
  omega

/-- The point gives each token the best of all codes, and its distance. -/
theorem point_best (da db : ℕ → FVec Ideal S8x4096 .f32) (s : Fin 4096)
    (ha : ∀ (a : Fin 8), ∀ r < 512, da r (ix2 a s) = D (8 * (0 + r) + a.val))
    (hb : ∀ (a : Fin 8), ∀ r < 512, db r (ix2 a s) = D (8 * (512 + r) + a.val)) (hf : ∀ c < 8192, D c < ⊤) :
    Holds D all (pointDist da db (ix2 0 s)) (pointCode da db (ix2 0 s)) := by
  refine Holds.of_eq ?_ all_eq
  refine Holds.contest_lt (half_best da 0 (by omega) s ha hf) (half_best db 512 le_rfl s hb hf) ?_
  intro c hc c' hc'
  simp only [half, Set.mem_setOf_eq] at hc hc'
  omega

end Cert.Proof.KernelBest

end
-- ==== Proof.KernelReals.lean ====
/-
  The kernel's results when the tokens and the code book are real: every token's best code, the book's row at it, and the
  squared distances to the best codes, added up and scaled.
-/
module

public import proofs.«01_k».proof.Proof.Entries
public import proofs.«01_k».proof.Proof.KernelBest
public import Idealize.ShloMosaic.Lib.KernelVsHost

@[expose] public section

noncomputable section

namespace Cert.Proof.KernelReals

open Idealize.ShloMosaic Idealize.ShloMosaic.ValueIdx
open Cert.KernelIdeal Cert.KernelIdeal.Gen
open Cert.Proof.Point Cert.Proof.Scan
open Cert.Proof.Launch Cert.Proof.Values Cert.Proof.Reals Cert.Proof.Exit Cert.Proof.Entries
open Cert.Proof.Region (blockAt codesAt lossAt)

variable {m : (ℓ : Loc nD τ sig) → Buf (Elt Ideal) ℓ} {d : Dev nD} {w : Data}

/-- Point `t`'s distances of the first half's groups, and of the second's. -/
abbrev dA (m : (ℓ : Loc nD τ sig) → Buf (Elt Ideal) ℓ) (d : Dev nD) (t : Fin grid0.N) : ℕ → FVec Ideal S8x4096 .f32 :=
  distA (blockAt (atEntry m d) d 0 t) (blockAt (atEntry m d) d 1 t) (blockAt (atEntry m d) d 2 t) (blockAt (atEntry m d) d 3 t)
abbrev dB (m : (ℓ : Loc nD τ sig) → Buf (Elt Ideal) ℓ) (d : Dev nD) (t : Fin grid0.N) : ℕ → FVec Ideal S8x4096 .f32 :=
  distB (blockAt (atEntry m d) d 0 t) (blockAt (atEntry m d) d 1 t) (blockAt (atEntry m d) d 2 t) (blockAt (atEntry m d) d 3 t)

/-- Point `t` finds each of its tokens' best code and the squared distance to it. -/
theorem point_holds (hw : IsData w (tokens m d) (bookArg m d)) (t : Fin grid0.N) (s : Fin 4096) :
    pointDist (dA m d t) (dB m d t) (ix2 0 s) = (sq w (token t s) (best w (token t s)) : EReal)
      ∧ pointCode (dA m d t) (dB m d t) (ix2 0 s) = BitVec.ofNat 32 (best w (token t s)).val :=
  holds_best w (KernelBest.point_best (D := D w (token t s)) (dA m d t) (dB m d t) s
    (fun a r hr => (Distances.distA_apply _ _ _ _ a s r hr).trans (pointD_eq hw t s _))
    (fun a r hr => (Distances.distB_apply _ _ _ _ a s r hr).trans (pointD_eq hw t s _))
    (fun c _ => D_lt_top w _ c))

/-- A row of 4096 as an array of one row of one row. -/
theorem row_apply {α : Type} (u : S1x4096.Idx → α) (s : Fin 4096) :
    shapeCast S1x1x4096 u shapeCasts_S1x4096_S1x1x4096 (ix3 0 0 s) = u (ix2 0 s) :=
  shapeCast_apply _ _ _ _ (by simp [Shape.rowMajor_val_two, Shape.rowMajor_val_three, ix2, ix3])

/-! ## The codes -/

theorem codesAt_eq (hw : IsData w (tokens m d) (bookArg m d)) (t : Fin grid0.N) (s : Fin 4096) :
    codesAt (atEntry m d) d t (ix3 0 0 s) = BitVec.ofNat 32 (best w (token t s)).val :=
  (row_apply _ s).trans (point_holds hw t s).2

/-- The point of a token, and the token's place in it. -/
def pointFor (i : Fin 16384) : Fin grid0.N := ⟨i.val / 4096, by rw [N_0]; omega⟩
def placeFor (i : Fin 16384) : Fin 4096 := ⟨i.val % 4096, by omega⟩

theorem token_for (i : Fin 16384) : token (pointFor i) (placeFor i) = i :=
  Fin.ext (by simp only [token, pointFor, placeFor]; omega)

/-- Every token gets its best code. -/
theorem codes_at (hw : IsData w (tokens m d) (bookArg m d)) (i : Fin 16384) :
    codes m d (ix1 i) = BitVec.ofNat 32 (best w i).val := by
  rw [codes_eq]
  refine (shapeCast_apply (s := S4x1x4096) (t := S16384) _ _ _ (ix3 ⟨(pointFor i).val, lt4 _⟩ 0 (placeFor i)) ?_).trans ?_
  · simp [Shape.rowMajor_val_one, Shape.rowMajor_val_three, ix1, ix3, pointFor, placeFor]
    omega
  · have := codesAt_eq hw (pointFor i) (placeFor i)
    rw [token_for] at this
    exact this

/-! ## The rows -/

/-- The padded book's first 64 columns are the book. -/
theorem book_at (hw : IsData w (tokens m d) (bookArg m d)) (c : Fin 8192) (k : Fin 64) :
    book m d (ix2 c ⟨k.val, by omega⟩ : S8192x128.Idx) = (w.e c k : EReal) := by
  rw [book_eq]
  refine (pad_apply_of_inside _ _ _ _ _ _ _ _ (ix2 c k : S8192x64.Idx) (fun a => ?_)).trans (hw.code c k)
  fin_cases a <;> simp [ix2]

/-- Every token gets the book's row at its best code. -/
theorem rows_at (hw : IsData w (tokens m d) (bookArg m d)) (i : Fin 16384) (k : Fin 64) :
    final m d (Proc.devRef .tc main_v14) (ix2 i k : S16384x64.Idx) = (w.e (best w i) k : EReal) := by
  rw [final_v14]
  refine (extractStridedSlice_apply (s := S16384x128) (t := S16384x64) _ _ _ _ (ix2 i ⟨k.val, by omega⟩) (fun a => by fin_cases a <;> simp [ix2])).trans ?_
  refine Eq.trans ?_ (book_at hw (best w i) k)
  show book m d (Tile.cell ⟨(codes m d (Tile.place i)).toNat % 8192, _⟩ ⟨k.val, _⟩) = _
  have hp : Tile.place i = ix1 i := by funext a; fin_cases a; rfl
  have hc := codes_at hw i
  have hb := (best w i).isLt
  refine congrArg (book m d) (funext fun a => Fin.ext ?_)
  fin_cases a
  · show (codes m d (Tile.place i)).toNat % 8192 = (best w i).val
    rw [hp, hc, BitVec.toNat_ofNat]
    omega
  · rfl

/-! ## The loss -/

/-- A point adds its tokens' distances to the loss. -/
theorem addLoss_apply (l : FVec Ideal S1x1 .f32) (v : FVec Ideal S1x1x4096 .f32) (j : S1x1.Idx) :
    addLoss l v j = (l j : EReal) + ∑ s : Fin 4096, v (ix3 0 0 s) := by
  unfold addLoss
  rw [addf_apply]
  refine congrArg (_ + ·) ?_
  refine Eq.trans (b := multiReduction (F := Ideal) (φ := .f32) .add [1, 2] S1 v 0x00000000#32 reduces_S1x1x4096_S1 (.inl rfl) rfl (ix1 0)) ?_ ?_
  · exact shapeCast_apply (s := S1) (t := S1x1x1) _ _ _ (ix1 0) (by simp [Shape.rowMajor_val_one, Shape.rowMajor_val_three, ix1])
  · exact (Idealize.ShloMosaic.Ideal.multiReduction_add_total v _ _ (fun b => by fin_cases b; rfl) _ _ _).trans (RowSums.sumLast v)

/-- The sum of the distances to the best codes of point `t`'s tokens. -/
def part (w : Data) (t : Fin 4) : EReal := ∑ s : Fin 4096, (sq w ⟨4096 * t.val + s.val, by omega⟩ (best w ⟨4096 * t.val + s.val, by omega⟩) : EReal)

theorem lossOf_at (hw : IsData w (tokens m d) (bookArg m d)) (t : Fin grid0.N) (l : S1x1.Idx → EReal) (j : S1x1.Idx) :
    lossOf (F := Ideal) (blockAt (atEntry m d) d 0 t) (blockAt (atEntry m d) d 1 t) (blockAt (atEntry m d) d 2 t) (blockAt (atEntry m d) d 3 t) l j
      = l j + part w ⟨t.val, lt4 t⟩ := by
  unfold lossOf
  rw [addLoss_apply, shapeCast_self]
  refine congrArg (_ + ·) (Finset.sum_congr rfl fun s _ => ?_)
  exact (row_apply _ s).trans (point_holds hw t s).1

/-- The loss after the last point: every token's squared distance to its best code. -/
theorem loss_at (hw : IsData w (tokens m d) (bookArg m d)) (j : S1x1.Idx) :
    lossAt (atEntry m d) d 3 (by decide) j = ((∑ i, sq w i (best w i) : ℝ) : EReal) := by
  have h3 := lossOf_at hw ⟨3, by decide⟩ (lossAt (atEntry m d) d 2 (by decide)) j
  have h2 := lossOf_at hw ⟨2, by decide⟩ (lossAt (atEntry m d) d 1 (by decide)) j
  have h1 := lossOf_at hw ⟨1, by decide⟩ (lossAt (atEntry m d) d 0 (by decide)) j
  have h0 := lossOf_at hw ⟨0, by decide⟩ (noLoss (F := Ideal)) j
  have hz : noLoss (F := Ideal) j = (0 : EReal) := Idealize.ShloMosaic.Ideal.ofBits_zero_f32
  rw [coe_sum, ← sum_tokens (fun i => (sq w i (best w i) : EReal)), Fin.sum_univ_four]
  rw [hz, zero_add] at h0
  refine h3.trans (congr (congrArg _ (h2.trans (congr (congrArg _ (h1.trans (congr (congrArg _ h0) rfl))) rfl))) rfl)

/-- The scaled loss. -/
theorem scaled_at (hw : IsData w (tokens m d) (bookArg m d)) (j : S_.Idx) :
    final m d (Proc.devRef .tc main_v16) j = (((∑ i, sq w i (best w i)) / 1048576 + 0.25 * ((∑ i, sq w i (best w i)) / 1048576) : ℝ) : EReal) := by
  rw [final_v16]
  show (mulf (F := Ideal) (φ := .f32) _ _) j = _
  rw [mulf_apply, constant_apply, RowSums.scale, ← loss_form]
  refine congrArg (· * _) ?_
  refine (shapeCast_apply (s := S1x1) (t := S_) _ _ _ (ix2 0 0) ?_).trans (loss_at hw _)
  have hj : j = ix0 := funext fun a => a.elim0
  subst hj
  decide

end Cert.Proof.KernelReals

end
-- ==== Proof.RefValues.lean ====
/-
  The reference's results as functions of its arguments: the distances, the codes, the rows at them, the loss and the
  tokens moved onto their rows.
-/
module

public import proofs.«01_k».proof.Proof.RefRun

@[expose] public section

noncomputable section

namespace Cert.Proof.RefValues

open Idealize.ShloMosaic Idealize.ShloMosaic.Tactic
open Idealize.ShloMosaic.StableHlo
open Cert.ReferenceIdeal Cert.ReferenceIdeal.Gen
open Cert.Proof.RefRun

variable {F : FTy → Type} [FloatOps F]

/-- Every token's distance from every code: the two norms, less twice the products. -/
def scoresOf (x : FVec F S16384x64 .f32) (e : FVec F S8192x64 .f32) : FVec F S16384x8192 .f32 :=
  subf
    (addf
      (broadcastInDim S16384x8192 ![0, 1] bcast_S16384x1_S16384x8192_0_1 (broadcastInDim S16384x1 ![0] bcast_S16384_S16384x1_0
        (Host.reduceAdd (mulf x x) (constant S_ .f32 0x00000000#32) reducesTo_S16384x64_S16384_d1 h_S_)))
      (broadcastInDim S16384x8192 ![0, 1] bcast_S1x8192_S16384x8192_0_1 (broadcastInDim S1x8192 ![1] bcast_S8192_S1x8192_1
        (Host.reduceAdd (mulf e e) (constant S_ .f32 0x00000000#32) reducesTo_S8192x64_S8192_d1 h_S_))))
    (mulf (broadcastInDim S16384x8192 ![] bcast_S_S16384x8192 (constant S_ .f32 0x40000000#32))
      (Host.dotGeneral dot_S16384x64_S64x8192_S16384x8192_1_0_0_1_n_n none x (transpose S64x8192 [1, 0] e transposes_S8192x64_S64x8192_1_0)))

/-- The codes. -/
def codesOf (x : FVec F S16384x64 .f32) (e : FVec F S8192x64 .f32) : IVec S16384 32 := fun j =>
  (Host.argReduce reducer_argmin_f32_i32 (scoresOf x e) (iotaInDim S16384x8192 32 1) (constant S_ .f32 0x7F800000#32) (constantI S_ 32 0#32)
    reducesTo_S16384x8192_S16384_d1 h_S_ j).2

theorem codesOf_eq (x : FVec F S16384x64 .f32) (e : FVec F S8192x64 .f32) : codesOf x e = fun j =>
    (Host.argReduce reducer_argmin_f32_i32 (scoresOf x e) (iotaInDim S16384x8192 32 1) (constant S_ .f32 0x7F800000#32) (constantI S_ 32 0#32)
      reducesTo_S16384x8192_S16384_d1 h_S_ j).2 := rfl

/-- A token's code. -/
theorem codesOf_apply (x : FVec F S16384x64 .f32) (e : FVec F S8192x64 .f32) (j : S16384.Idx) : codesOf x e j =
    (Host.argReduce reducer_argmin_f32_i32 (scoresOf x e) (iotaInDim S16384x8192 32 1) (constant S_ .f32 0x7F800000#32) (constantI S_ 32 0#32)
      reducesTo_S16384x8192_S16384_d1 h_S_ j).2 := congrFun (codesOf_eq x e) j

/-- Codes as row numbers, a negative one counted from the end, as a column. -/
def column (c : IVec S16384 32) : IVec S16384x1 32 :=
  broadcastInDim S16384x1 ![0] bcast_S16384_S16384x1_0
    (select (cmpi .slt c (broadcastInDim S16384 ![] bcast_S_S16384 (constantI S_ 32 0#32)))
      (addi c (broadcastInDim S16384 ![] bcast_S_S16384 (constantI S_ 32 8192#32))) c)

/-- Whether each is a row of the book. -/
def inRange (c : IVec S16384 32) : IVec S16384 1 :=
  Host.reduce IntOp.andi
    (andi (cmpi .sge (column c) (broadcastInDim S16384x1 ![] bcast_S_S16384x1 (constantI S_ 32 0#32)))
      (cmpi .sle (column c) (broadcastInDim S16384x1 ![0, 1] bcast_S1x1_S16384x1_0_1 (broadcastInDim S1x1 ![1] bcast_S1_S1x1_1 (constantI S1 32 8191#32)))))
    (constantI S_ 1 1#1) reducesTo_S16384x1_S16384_d1 h_S_

/-- The book's rows at the codes. -/
def rowsOf (e : FVec F S8192x64 .f32) (c : IVec S16384 32) : FVec F S16384x64 .f32 :=
  select (broadcastInDim S16384x64 ![0] bcast_S16384_S16384x64_0 (inRange c))
    (Host.gather gather_S8192x64_S16384x1_S16384x64_1_0_n_n_0_1_164 e (column c))
    (broadcastInDim S16384x64 ![] bcast_S_S16384x64 (constant S_ .f32 0x7FC00000#32))

/-- The mean of the squares of a difference. -/
def mean (u : FVec F S16384x64 .f32) : FVec F S_ .f32 :=
  Host.divf (Host.reduceAdd (mulf u u) (constant S_ .f32 0x00000000#32) reducesTo_S16384x64_S_d0_1 h_S_) (constant S_ .f32 0x49800000#32)

/-- The loss. -/
def lossOf (x q : FVec F S16384x64 .f32) : FVec F S_ .f32 :=
  addf (mean (subf q x)) (mulf (constant S_ .f32 0x3E800000#32) (mean (subf x q)))

variable (m : (ℓ : Loc nD τ sig) → Buf (Elt F) ℓ) (d : Dev nD)

/-- The tokens and the code book, as launched. -/
def tokens : FVec F S16384x64 .f32 := m ((d.tc : Thread nD τ).loc main_arg0)
def book : FVec F S8192x64 .f32 := m ((d.tc : Thread nD τ).loc main_arg2)

/-! ## Stage by stage, from any contents -/

theorem after_app (l l' : List (HloOp τ sig (Elt F))) : ∀ V, after (l ++ l') V = after l' (after l V) := by
  induction l with
  | nil => intro V; rfl
  | cons op l ih => intro V; exact ih _

variable (V : Valuation τ sig (Elt F))

theorem scores_v13 : after (scores (F := F)) V (Proc.devRef .tc main_v13) = scoresOf (V (Proc.devRef .tc main_arg0)) (V (Proc.devRef .tc main_arg2)) := by
  unfold scores
  after_results
  rfl
theorem scores_arg0 : after (scores (F := F)) V (Proc.devRef .tc main_arg0) = V (Proc.devRef .tc main_arg0) := by
  unfold scores
  after_results
theorem scores_arg2 : after (scores (F := F)) V (Proc.devRef .tc main_arg2) = V (Proc.devRef .tc main_arg2) := by
  unfold scores
  after_results

theorem pick_v14 : after (pick (F := F)) V (Proc.devRef .tc main_v14) = fun j =>
    (Host.argReduce reducer_argmin_f32_i32 (V (Proc.devRef .tc main_v13)) (iotaInDim S16384x8192 32 1) (constant S_ .f32 0x7F800000#32) (constantI S_ 32 0#32)
      reducesTo_S16384x8192_S16384_d1 h_S_ j).2 := by
  unfold pick
  after_results
  rfl
theorem pick_arg0 : after (pick (F := F)) V (Proc.devRef .tc main_arg0) = V (Proc.devRef .tc main_arg0) := by
  unfold pick
  after_results
theorem pick_arg2 : after (pick (F := F)) V (Proc.devRef .tc main_arg2) = V (Proc.devRef .tc main_arg2) := by
  unfold pick
  after_results

theorem fetch_v15 : after (fetch (F := F)) V (Proc.devRef .tc main_v15) = rowsOf (V (Proc.devRef .tc main_arg2)) (V (Proc.devRef .tc main_v14)) := by
  unfold fetch
  after_results
  simp only [TRef.ofBuf, TRef.toBuf, cast_eq]
  rfl
theorem fetch_v14 : after (fetch (F := F)) V (Proc.devRef .tc main_v14) = V (Proc.devRef .tc main_v14) := by
  unfold fetch
  after_results
theorem fetch_arg0 : after (fetch (F := F)) V (Proc.devRef .tc main_arg0) = V (Proc.devRef .tc main_arg0) := by
  unfold fetch
  after_results

theorem close_v25 : after (close (F := F)) V (Proc.devRef .tc main_v25) = lossOf (V (Proc.devRef .tc main_arg0)) (V (Proc.devRef .tc main_v15)) := by
  unfold close
  after_results
  rfl
theorem close_v27 : after (close (F := F)) V (Proc.devRef .tc main_v27)
    = addf (V (Proc.devRef .tc main_arg0)) (subf (V (Proc.devRef .tc main_v15)) (V (Proc.devRef .tc main_arg0))) := by
  unfold close
  after_results
theorem close_v14 : after (close (F := F)) V (Proc.devRef .tc main_v14) = V (Proc.devRef .tc main_v14) := by
  unfold close
  after_results

/-! ## The line -/

theorem picked : after (pick (F := F)) (after scores (launchContents m d)) (Proc.devRef .tc main_v14) = codesOf (tokens m d) (book m d) := by
  rw [pick_v14, scores_v13]
  rfl

theorem fetched : after (fetch (F := F)) (after pick (after scores (launchContents m d))) (Proc.devRef .tc main_v15)
    = rowsOf (book m d) (codesOf (tokens m d) (book m d)) := by
  rw [fetch_v15, picked, pick_arg2, scores_arg2]
  rfl

theorem kept : after (fetch (F := F)) (after pick (after scores (launchContents m d))) (Proc.devRef .tc main_arg0) = tokens m d := by
  rw [fetch_arg0, pick_arg0, scores_arg0]
  rfl

theorem line_v14 : after (line (F := F)) (launchContents m d) (Proc.devRef .tc main_v14) = codesOf (tokens m d) (book m d) := by
  unfold line
  rw [after_app, after_app, after_app, close_v14, fetch_v14, picked]

theorem line_v27 : after (line (F := F)) (launchContents m d) (Proc.devRef .tc main_v27)
    = addf (tokens m d) (subf (rowsOf (book m d) (codesOf (tokens m d) (book m d))) (tokens m d)) := by
  unfold line
  rw [after_app, after_app, after_app, close_v27, fetched, kept]

theorem line_v25 : after (line (F := F)) (launchContents m d) (Proc.devRef .tc main_v25)
    = lossOf (tokens m d) (rowsOf (book m d) (codesOf (tokens m d) (book m d))) := by
  unfold line
  rw [after_app, after_app, after_app, close_v25, fetched, kept]

end Cert.Proof.RefValues

end
-- ==== Proof.ArgMin.lean ====
/-
  The reference's choice of a code: its fold over a token's codes, from infinity, keeps the lesser distance and of equal
  ones the lesser code, so that it ends with the best of all codes.
-/
module

public import proofs.«01_k».proof.Proof.RefRun
public import proofs.«01_k».proof.Proof.Best
public import proofs.«01_k».proof.Proof.RowSums
public import proofs.«01_k».proof.Proof.Reals

@[expose] public section

noncomputable section

namespace Cert.Proof.ArgMin

open Idealize.ShloMosaic Idealize.ShloMosaic.ValueIdx
open Cert.ReferenceIdeal Cert.ReferenceIdeal.Gen
open Cert.Proof.Best Cert.Proof.Reals

variable {D : ℕ → EReal}

/-- One step of the fold. -/
abbrev step : EReal × BitVec 32 → EReal × BitVec 32 → EReal × BitVec 32 := reducer_argmin_f32_i32 (F := Ideal)

theorem ori_zero (b : BitVec 1) : IntOp.ori b 0#1 = b := by revert b; decide

/-- A step plays the pair held off against the next one. -/
theorem step_eq (a b : EReal × BitVec 32) :
    step a b = (Scalar.select (beats a.1 b.1 a.2 b.2) a.1 b.1, Scalar.select (beats a.1 b.1 a.2 b.2) a.2 b.2) := by
  have hu : FloatOps.cmpf (F := Ideal) (φ := .f32) .une a.1 a.1 = 0#1 := une_self a.1
  unfold step reducer_argmin_f32_i32
  dsimp only
  rw [hu, ori_zero]
  refine Prod.ext ?_ rfl
  show Scalar.select (Ideal.cmp .olt a.1 b.1) a.1 b.1 = Scalar.select (beats a.1 b.1 a.2 b.2) a.1 b.1
  by_cases hl : Ideal.cmp .olt a.1 b.1 = 1#1
  · have hb : beats a.1 b.1 a.2 b.2 = 1#1 := (ori_iff _ _).mpr (Or.inl hl)
    rw [hl, hb]
  · by_cases hb : beats a.1 b.1 a.2 b.2 = 1#1
    · have he : a.1 = b.1 := by
        rcases (ori_iff _ _).mp hb with h | h
        · exact absurd h hl
        · exact (oeq_iff _ _).mp ((andi_iff _ _).mp h).1
      simp [Scalar.select, he]
    · simp [Scalar.select, hl, hb]

/-- A code alone is the best of itself. -/
theorem holds_one {c : ℕ} (hc : c < 8192) : Holds D {c} (D c) (BitVec.ofNat 32 c) :=
  ⟨c, ⟨rfl, fun c' h => Or.inr ⟨by rw [h], by rw [h]⟩⟩, hc, rfl, rfl⟩

/-- From the best of a set, the fold over a list of codes ends with the best of the set and the list. -/
theorem fold_holds (l : List ℕ) : ∀ (S : Set ℕ) (p : EReal × BitVec 32), (∀ c ∈ l, c < 8192) → Holds D S p.1 p.2 →
    Holds D (S ∪ {c | c ∈ l}) ((l.map fun c => (D c, BitVec.ofNat 32 c)).foldl step p).1 ((l.map fun c => (D c, BitVec.ofNat 32 c)).foldl step p).2 := by
  induction l with
  | nil => intro S p _ h; exact h.of_eq (by ext x; simp)
  | cons c l ih =>
    intro S p hl h
    have hc : Holds D ({c} ∪ S) (step p (D c, BitVec.ofNat 32 c)).1 (step p (D c, BitVec.ofNat 32 c)).2 := by
      rw [step_eq]
      exact (holds_one (hl c List.mem_cons_self)).contest h
    refine (ih ({c} ∪ S) _ (fun x hx => hl x (List.mem_cons_of_mem _ hx)) hc).of_eq ?_
    ext x
    simp only [Set.mem_union, Set.mem_setOf_eq, Set.mem_singleton_iff, List.mem_cons]
    tauto

/-- From infinity, over a list that is not empty and codes whose distances are below it, with the best of the list. -/
theorem fold_best (l : List ℕ) (hne : l ≠ []) (hl : ∀ c ∈ l, c < 8192) (hf : ∀ c, D c < ⊤) (w : BitVec 32) :
    Holds D {c | c ∈ l} ((l.map fun c => (D c, BitVec.ofNat 32 c)).foldl step (⊤, w)).1 ((l.map fun c => (D c, BitVec.ofNat 32 c)).foldl step (⊤, w)).2 := by
  obtain ⟨c, l, rfl⟩ := List.exists_cons_of_ne_nil hne
  have h1 : step (⊤, w) (D c, BitVec.ofNat 32 c) = (D c, BitVec.ofNat 32 c) := by
    have hb : ¬ beats ⊤ (D c) w (BitVec.ofNat 32 c) = 1#1 := fun h => by
      rcases (ori_iff _ _).mp h with h | h
      · exact absurd ((olt_iff _ _).mp h) not_top_lt
      · exact absurd ((oeq_iff _ _).mp ((andi_iff _ _).mp h).1) (hf c).ne'
    rw [step_eq]
    simp [Scalar.select, hb]
  show Holds D _ ((l.map fun c => (D c, BitVec.ofNat 32 c)).foldl step (step (⊤, w) (D c, BitVec.ofNat 32 c))).1 ((l.map fun c => (D c, BitVec.ofNat 32 c)).foldl step (step (⊤, w) (D c, BitVec.ofNat 32 c))).2
  rw [h1]
  refine (fold_holds l {c} _ (fun x hx => hl x (List.mem_cons_of_mem _ hx)) (holds_one (hl c List.mem_cons_self))).of_eq ?_
  ext x
  simp

theorem rowReduces : S16384x8192.Reduces [1] S16384 := by decide

theorem lift_eq (i : Fin 16384) (c : Fin 8192) : rowReduces.lift (ix1 i) c = ix2 i c := by
  funext a
  fin_cases a <;> rfl

/-- The codes of the elements of token `i`'s row, in the order that the fold meets them. -/
def met (i : Fin 16384) : List ℕ :=
  ((List.finRange S16384x8192.numel).filter fun n => reducesTo_S16384x8192_S16384_d1.drop (S16384x8192.rowMajor.symm n) = (ix1 i : S16384.Idx)).map
    fun n => (S16384x8192.rowMajor.symm n 1).val

/-- The code of an element of the distances. -/
def codeOf (k : S16384x8192.Idx) : Fin 8192 := k 1

theorem drop_iff (i : Fin 16384) (k : S16384x8192.Idx) :
    reducesTo_S16384x8192_S16384_d1.drop k = (ix1 i : S16384.Idx) ↔ k = (ix2 i (codeOf k) : S16384x8192.Idx) := by
  rw [Shape.ReducesTo.drop_eq_drop reducesTo_S16384x8192_S16384_d1 rowReduces]
  constructor
  · intro h
    refine Eq.trans ?_ (lift_eq i (codeOf k))
    rw [← h]
    exact (rowReduces.lift_drop k).symm
  · intro h
    rw [h]
    exact (congrArg rowReduces.drop (lift_eq i (codeOf k)).symm).trans (rowReduces.drop_lift _ _)

theorem met_lt (i : Fin 16384) : ∀ c ∈ met i, c < 8192 := by
  intro c hc
  obtain ⟨n, -, rfl⟩ := List.mem_map.mp hc
  exact (S16384x8192.rowMajor.symm n 1).isLt

theorem met_all (i : Fin 16384) (c : Fin 8192) : c.val ∈ met i := by
  refine List.mem_map.mpr ⟨S16384x8192.rowMajor (ix2 i c), List.mem_filter.mpr ⟨List.mem_finRange _, ?_⟩, ?_⟩
  · rw [Equiv.symm_apply_apply]
    exact decide_eq_true ((drop_iff i _).mpr rfl)
  · rw [Equiv.symm_apply_apply]

/-- The fold's pairs are those of the codes met. -/
theorem fiber_eq (i : Fin 16384) (x : S16384x8192.Idx → EReal) (hx : ∀ c : Fin 8192, x (ix2 i c) = D c.val) :
    Host.argReduceFiber x (iotaInDim S16384x8192 32 1) reducesTo_S16384x8192_S16384_d1 (ix1 i) = (met i).map fun c => (D c, BitVec.ofNat 32 c) := by
  unfold Host.argReduceFiber met
  rw [List.map_map]
  refine List.map_congr_left fun n hn => ?_
  have hn' := (drop_iff i _).mp (of_decide_eq_true (List.mem_filter.mp hn).2)
  refine Prod.ext ?_ rfl
  show x (S16384x8192.rowMajor.symm n) = D (S16384x8192.rowMajor.symm n 1).val
  exact (congrArg x hn').trans (hx (codeOf _))

/-- The reference's code for token `i`. -/
theorem argmin_eq (w : Data) (i : Fin 16384) (x : S16384x8192.Idx → EReal) (hx : ∀ c : Fin 8192, x (ix2 i c) = (sq w i c : EReal)) :
    (Host.argReduce (reducer_argmin_f32_i32 (F := Ideal)) x (iotaInDim S16384x8192 32 1) (constant S_ .f32 0x7F800000#32) (constantI S_ 32 0#32)
      reducesTo_S16384x8192_S16384_d1 h_S_ (ix1 i)).2 = BitVec.ofNat 32 (best w i).val := by
  rw [Idealize.ShloMosaic.Ideal.argReduce_eq_reduce2, Host.reduce2_eq_foldl_fiber,
    fiber_eq (D := D w i) i x (fun c => (hx c).trans (D_eq w i c).symm)]
  have hi : (constant (F := Ideal) S_ .f32 0x7F800000#32 (Shape.Idx.first h_S_) : EReal) = ⊤ := (constant_apply _ _).trans RowSums.infinity
  rw [hi]
  refine (holds_best w ((fold_best (D := D w i) (met i) (List.ne_nil_of_mem (met_all i 0)) (met_lt i) (D_lt_top w i) _).of_eq ?_)).2
  ext c
  exact ⟨fun h => met_lt i c h, fun h => met_all i ⟨c, h⟩⟩

end Cert.Proof.ArgMin

end
-- ==== Proof.RefReals.lean ====
/-
  The reference's results when the tokens and the code book are real: every token's best code, the book's row at it, and
  the mean squared distance to the best codes with a quarter of it again.
-/
module

public import proofs.«01_k».proof.Proof.RefValues
public import proofs.«01_k».proof.Proof.ArgMin
public import Idealize.ShloMosaic.Lib.ValueLayout
public import Idealize.ShloMosaic.Lib.KernelVsHost

@[expose] public section

noncomputable section

namespace Cert.Proof.RefReals

open Idealize.ShloMosaic Idealize.ShloMosaic.ValueIdx
open Cert.ReferenceIdeal Cert.ReferenceIdeal.Gen
open Cert.Proof.RefValues Cert.Proof.Reals

variable {w : Data} {x : FVec Ideal S16384x64 .f32} {e : FVec Ideal S8192x64 .f32}

theorem tokenReduces : S16384x64.Reduces [1] S16384 := by decide
theorem codeReduces : S8192x64.Reduces [1] S8192 := by decide
theorem columnReduces : S16384x1.Reduces [1] S16384 := by decide

/-! ## The distances -/

/-- The contraction runs over the 64 columns. -/
def colEquiv : (dot_S16384x64_S64x8192_S16384x8192_1_0_0_1_n_n).contr.Idx ≃ Fin 64 := contrEquiv1 _ 64 rfl rfl

theorem colEquiv_symm (k : Fin 64) : ((colEquiv.symm k) ⟨0, by decide⟩ : ℕ) = k.val := contrEquiv1_symm_val _ 64 rfl rfl k

theorem lhs_at (i : Fin 16384) (c : Fin 8192) (k : Fin 64) :
    (dot_S16384x64_S64x8192_S16384x8192_1_0_0_1_n_n).lhsIdx (ix2 i c) (colEquiv.symm k) = ix2 i k := by
  funext a
  apply Fin.ext
  fin_cases a
  · rfl
  · exact colEquiv_symm k

theorem rhs_at (i : Fin 16384) (c : Fin 8192) (k : Fin 64) :
    (dot_S16384x64_S64x8192_S16384x8192_1_0_0_1_n_n).rhsIdx (ix2 i c) (colEquiv.symm k) = ix2 k c := by
  funext a
  apply Fin.ext
  fin_cases a
  · exact colEquiv_symm k
  · rfl

/-- The products of the tokens with the codes. -/
theorem products_at (hw : IsData w x e) (i : Fin 16384) (c : Fin 8192) :
    Host.dotGeneral dot_S16384x64_S64x8192_S16384x8192_1_0_0_1_n_n none x (transpose S64x8192 [1, 0] e transposes_S8192x64_S64x8192_1_0) (ix2 i c)
      = ∑ k, (w.x i k : EReal) * (w.e c k : EReal) := by
  simp only [Host.dotGeneral]
  rw [Idealize.ShloMosaic.Ideal.dotGeneral_apply]
  rw [← Equiv.sum_comp colEquiv.symm]
  refine Finset.sum_congr rfl fun k _ => ?_
  rw [lhs_at, rhs_at, transpose_apply (s := S8192x64) (t := S64x8192) _ _ _ (ix2 k c) (ix2 c k) (fun a => by fin_cases a <;> rfl)]
  exact congr (congrArg _ (hw.tok i k)) (hw.code c k)

/-- The reference's distances are the squared distances. -/
theorem scores_at (hw : IsData w x e) (i : Fin 16384) (c : Fin 8192) : scoresOf x e (ix2 i c) = (sq w i c : EReal) := by
  unfold scoresOf
  rw [subf_apply, addf_apply, mulf_apply, ← reference_form]
  refine congr (congrArg _ (congr (congrArg _ ?_) ?_)) (congr (congrArg _ ?_) (products_at hw i c))
  · refine (broadcastInDim_apply _ _ _ _ (ix2 i 0 : S16384x1.Idx) (fun a => by fin_cases a <;> rfl)).trans ?_
    refine (broadcastInDim_apply _ _ _ _ (ix1 i : S16384.Idx) (fun a => by fin_cases a; rfl)).trans ?_
    refine (RowSums.rowSum _ _ tokenReduces _ _).trans (congrArg _ (Finset.sum_congr rfl fun k _ => ?_))
    rw [mulf_apply, hw.tok]
  · refine (broadcastInDim_apply _ _ _ _ (ix2 0 c : S1x8192.Idx) (fun a => by fin_cases a <;> rfl)).trans ?_
    refine (broadcastInDim_apply _ _ _ _ (ix1 c : S8192.Idx) (fun a => by fin_cases a; rfl)).trans ?_
    refine (RowSums.rowSum _ _ codeReduces _ _).trans (congrArg _ (Finset.sum_congr rfl fun k _ => ?_))
    rw [mulf_apply, hw.code]
  · exact (broadcastInDim_apply _ _ _ _ ix0 (fun a => a.elim0)).trans ((constant_apply _ _).trans RowSums.two)

/-- Every token gets its best code. -/
theorem codes_at (hw : IsData w x e) (i : Fin 16384) : codesOf x e (ix1 i) = BitVec.ofNat 32 (best w i).val :=
  (codesOf_apply x e (ix1 i)).trans (ArgMin.argmin_eq w i (scoresOf x e) (scores_at hw i))

/-! ## The rows -/

theorem not_negative (b : Fin 8192) : IntOp.cmpi .slt (BitVec.ofNat 32 b.val) 0#32 = 0#1 := by
  unfold IntOp.cmpi
  simp only [BitVec.slt, Best.toInt_code b.isLt]
  rw [decide_eq_false (by simp)]
  rfl

theorem at_least_zero (b : Fin 8192) : IntOp.cmpi .sge (BitVec.ofNat 32 b.val) 0#32 = 1#1 := by
  unfold IntOp.cmpi
  simp only [BitVec.sle, Best.toInt_code b.isLt]
  rw [decide_eq_true (by simp)]
  rfl

theorem at_most_last (b : Fin 8192) : IntOp.cmpi .sle (BitVec.ofNat 32 b.val) 8191#32 = 1#1 := by
  have h : (8191#32 : BitVec 32).toInt = 8191 := by decide
  have := b.isLt
  unfold IntOp.cmpi
  simp only [BitVec.sle, Best.toInt_code b.isLt, h]
  rw [decide_eq_true (by omega)]
  rfl

theorem fold_one (f : Fin 1 → BitVec 1) : (Finset.univ : Finset (Fin 1)).fold IntOp.andi 1#1 f = IntOp.andi (f 0) 1#1 := by
  rw [Finset.univ_unique, Finset.fold_singleton]
  rfl

section Rows

variable {c : IVec S16384 32} {i : Fin 16384} {b : Fin 8192} (hc : c (ix1 i) = BitVec.ofNat 32 b.val)
include hc

/-- A code is its row's number. -/
theorem column_at : column c (ix2 i 0) = BitVec.ofNat 32 b.val := by
  unfold column
  refine (broadcastInDim_apply _ _ _ _ (ix1 i : S16384.Idx) (fun a => by fin_cases a; rfl)).trans ?_
  have h : cmpi .slt c (broadcastInDim S16384 ![] bcast_S_S16384 (constantI S_ 32 0#32)) (ix1 i) = 0#1 := by
    show IntOp.cmpi .slt (c (ix1 i)) 0#32 = 0#1
    rw [hc]
    exact not_negative b
  rw [select_apply, h, hc]
  rfl

/-- It is a row of the book. -/
theorem inRange_at : inRange c (ix1 i) = 1#1 := by
  unfold inRange
  rw [Host.reduce_eq_fold_single _ _ _ reducesTo_S16384x1_S16384_d1 columnReduces]
  refine Eq.trans (b := IntOp.andi (IntOp.andi (IntOp.cmpi .sge (column c (ix2 i 0)) 0#32) (IntOp.cmpi .sle (column c (ix2 i 0)) 8191#32)) 1#1) ?_ ?_
  · have hl : columnReduces.lift (ix1 i) (0 : Fin 1) = ix2 i 0 := by
      funext a
      fin_cases a <;> rfl
    refine (fold_one _).trans ?_
    exact congrArg (fun k => IntOp.andi (IntOp.andi (IntOp.cmpi .sge (column c k) 0#32) (IntOp.cmpi .sle (column c k) 8191#32)) 1#1) hl
  · rw [column_at hc, at_least_zero, at_most_last]
    decide

/-- So the row fetched is the book's at the code. -/
theorem rowsOf_at (k : Fin 64) : rowsOf e c (ix2 i k) = e (ix2 b k) := by
  unfold rowsOf
  have h : broadcastInDim S16384x64 ![0] bcast_S16384_S16384x64_0 (inRange c) (ix2 i k) = 1#1 :=
    (broadcastInDim_apply _ _ _ _ (ix1 i : S16384.Idx) (fun a => by fin_cases a; rfl)).trans (inRange_at hc)
  rw [select_apply, h]
  refine Eq.trans (b := Host.gather gather_S8192x64_S16384x1_S16384x64_1_0_n_n_0_1_164 e (column c) (ix2 i k)) rfl ?_
  unfold Host.gather
  refine congrArg e (funext fun a => Fin.ext ?_)
  fin_cases a
  · show min (column c _).toInt.toNat (8192 - 1) + 0 + 0 = b.val
    have hi : (gather_S8192x64_S16384x1_S16384x64_1_0_n_n_0_1_164).siIdx (ix2 i k) ⟨0, by decide⟩ = ix2 i 0 := by
      funext a
      fin_cases a <;> rfl
    refine Eq.trans (b := min (column c (ix2 i 0)).toInt.toNat (8192 - 1) + 0 + 0) (congrArg (fun k => min (column c k).toInt.toNat (8192 - 1) + 0 + 0) hi) ?_
    rw [column_at hc, Best.toInt_code b.isLt]
    have := b.isLt
    simp
    omega
  · show 0 + 0 + k.val = k.val
    omega

end Rows

/-- Every token gets the book's row at its best code. -/
theorem rows_at (hw : IsData w x e) (i : Fin 16384) (k : Fin 64) : rowsOf e (codesOf x e) (ix2 i k) = (w.e (best w i) k : EReal) :=
  (rowsOf_at (codes_at hw i) k).trans (hw.code _ _)

/-- The token moved onto its row is the row. -/
theorem moved_at (hw : IsData w x e) (i : Fin 16384) (k : Fin 64) :
    addf x (subf (rowsOf e (codesOf x e)) x) (ix2 i k) = (w.e (best w i) k : EReal) := by
  rw [addf_apply, subf_apply, rows_at hw, hw.tok]
  rw [← EReal.coe_sub, ← EReal.coe_add]
  exact congrArg _ (by ring)

/-! ## The loss -/

/-- The mean of the squares of a real array whose rows' sums of squares are known. -/
theorem mean_at (u : FVec Ideal S16384x64 .f32) (r : Fin 16384 → Fin 64 → ℝ) (hu : ∀ i k, u (ix2 i k) = (r i k : EReal)) (j : S_.Idx) :
    mean u j = (((∑ i, ∑ k, r i k ^ 2) / 1048576 : ℝ) : EReal) := by
  unfold mean
  have hs : Host.reduceAdd (F := Ideal) (φ := .f32) (mulf u u) (constant S_ .f32 0x00000000#32) reducesTo_S16384x64_S_d0_1 h_S_ j
      = ((∑ i, ∑ k, r i k ^ 2 : ℝ) : EReal) := by
    refine (RowSums.wholeSum _ _ _ j).trans ?_
    rw [zero_add, coe_sum]
    refine Finset.sum_congr rfl fun i _ => ?_
    rw [coe_sum]
    refine Finset.sum_congr rfl fun k _ => ?_
    rw [mulf_apply, hu, ← EReal.coe_mul]
    exact congrArg _ (by ring)
  show Ideal.div _ _ = _
  rw [hs, constant_apply, RowSums.elements]
  unfold Ideal.div
  rw [if_neg (by norm_num), ← EReal.coe_inv, ← EReal.coe_mul, div_eq_mul_inv]

/-- The loss: the mean squared distance to the best codes, and a quarter of it. -/
theorem loss_at (hw : IsData w x e) (j : S_.Idx) :
    lossOf x (rowsOf e (codesOf x e)) j = (((∑ i, sq w i (best w i)) / 1048576 + 0.25 * ((∑ i, sq w i (best w i)) / 1048576) : ℝ) : EReal) := by
  unfold lossOf
  rw [addf_apply, mulf_apply, constant_apply, RowSums.quarter,
    mean_at (subf (rowsOf e (codesOf x e)) x) (fun i k => w.e (best w i) k - w.x i k) (fun i k => by
      rw [subf_apply, rows_at hw, hw.tok, ← EReal.coe_sub]),
    mean_at (subf x (rowsOf e (codesOf x e))) (fun i k => w.x i k - w.e (best w i) k) (fun i k => by
      rw [subf_apply, rows_at hw, hw.tok, ← EReal.coe_sub])]
  have h : ∀ i, ∑ k, (w.x i k - w.e (best w i) k) ^ 2 = sq w i (best w i) := fun i =>
    Finset.sum_congr rfl fun k _ => by ring
  rw [← EReal.coe_mul, ← EReal.coe_add]
  simp only [h]
  rfl

end Cert.Proof.RefReals

end
-- ==== Proof.Algebraic.lean ====
/-
  The value claim: on real tokens and a real code book the kernel and the reference, both read at the reals, leave the same
  rows, the same loss and the same codes.
-/
module

public import proofs.«01_k».proof.Defs
public import proofs.«01_k».proof.Proof.Frames
public import proofs.«01_k».proof.Proof.RefFrames
public import proofs.«01_k».proof.Proof.KernelReals
public import proofs.«01_k».proof.Proof.RefReals
public import proofs.«01_k».proof.Proof.Finite

@[expose] public section

noncomputable section

namespace Cert.Proof.Algebraic

open Idealize.ShloMosaic Idealize.ShloMosaic.ValueIdx Idealize.SL.Sem
open Idealize.ShloMosaic.StableHlo
open Cert.Proof.Reals

variable {m : (ℓ : Loc Cert.KernelIdeal.nD Cert.KernelIdeal.τ Cert.KernelIdeal.sig) → Buf (Elt Ideal) ℓ}
  {m' : (ℓ : Loc Cert.ReferenceIdeal.nD Cert.ReferenceIdeal.τ Cert.ReferenceIdeal.sig) → Buf (Elt Ideal) ℓ}
  {c : Dev Cert.KernelIdeal.nD} {w : Data}

/-- The rows agree. -/
theorem rows_agree (hk : IsData w (Values.tokens m c) (Values.bookArg m c)) (hr : IsData w (RefValues.tokens m' c) (RefValues.book m' c)) :
    after (RefRun.line (F := Ideal)) (launchContents m' c) (Proc.devRef .tc Cert.ReferenceIdeal.main_v27)
      = Launch.final m c (Proc.devRef .tc Cert.KernelIdeal.main_v14) := by
  rw [RefValues.line_v27]
  funext j
  rw [eq_ix2 (j : (⟨2, ![16384, 64]⟩ : Shape).Idx)]
  exact (RefReals.moved_at hr _ _).trans (KernelReals.rows_at hk _ _).symm

/-- The losses agree. -/
theorem losses_agree (hk : IsData w (Values.tokens m c) (Values.bookArg m c)) (hr : IsData w (RefValues.tokens m' c) (RefValues.book m' c)) :
    after (RefRun.line (F := Ideal)) (launchContents m' c) (Proc.devRef .tc Cert.ReferenceIdeal.main_v25)
      = Launch.final m c (Proc.devRef .tc Cert.KernelIdeal.main_v16) := by
  rw [RefValues.line_v25]
  funext j
  exact (RefReals.loss_at hr j).trans (KernelReals.scaled_at hk j).symm

/-- The codes agree. -/
theorem codes_agree (hk : IsData w (Values.tokens m c) (Values.bookArg m c)) (hr : IsData w (RefValues.tokens m' c) (RefValues.book m' c)) :
    after (RefRun.line (F := Ideal)) (launchContents m' c) (Proc.devRef .tc Cert.ReferenceIdeal.main_v14)
      = Launch.final m c (Proc.devRef .tc Cert.KernelIdeal.main_v11) := by
  rw [RefValues.line_v14, Values.final_v11]
  funext j
  rw [eq_ix1 (j : (⟨1, ![16384]⟩ : Shape).Idx)]
  exact (RefReals.codes_at hr _).trans (KernelReals.codes_at hk _).symm

/-- The kernel's frame where the tokens and the code book are finite. -/
theorem frame_ideal_finite :
    Cert.quiescent_KernelIdeal_pre_finite_inputs (hKernelIdeal := Cert.KernelIdeal.Gen.facts) (hPre_finite_inputs := Finite.facts) :=
  fun m ρ _ => Frames.run_frame (F := Ideal) m ρ

/-- The reference's frame there. -/
theorem frame_reference_finite :
    Cert.quiescent_ReferenceIdeal_pre_finite_inputs (hReferenceIdeal := Cert.ReferenceIdeal.Gen.facts) (hPre_finite_inputs := Finite.facts) :=
  fun m ρ _ => RefFrames.frame_reference m ρ trivial

/-- The kernel and the reference leave the same results. -/
theorem results_agree :
    Cert.algebraic_KernelIdeal_ReferenceIdeal_pre_finite_inputs (hKernelIdeal := Cert.KernelIdeal.Gen.facts)
      (hReferenceIdeal := Cert.ReferenceIdeal.Gen.facts) (hPre_finite_inputs := Finite.facts) := fun m ρ m' ρ' hp ha => by
  have hd : ∀ c : Dev Cert.KernelIdeal.nD, ∃ w : Data, IsData w (Values.tokens m c) (Values.bookArg m c) ∧ IsData w (RefValues.tokens m' c) (RefValues.book m' c) := by
    intro c
    obtain ⟨w, hw⟩ := @Finite.isData_of_pre Finite.facts _ _ _ (hp c)
    have hx : RefValues.tokens m' c = Values.tokens m c := (ha c).1
    have he : RefValues.book m' c = Values.bookArg m c := (ha c).2.2
    rw [hx, he]
    exact ⟨w, hw, hw⟩
  refine ⟨fun c => Launch.final m c (Proc.devRef .tc Cert.KernelIdeal.main_v14), fun c => Launch.final m c (Proc.devRef .tc Cert.KernelIdeal.main_v16),
    fun c => Launch.final m c (Proc.devRef .tc Cert.KernelIdeal.main_v11), ?_, ?_⟩
  · exact (θ_run _ _ _).mono (fun _ h => h.1) (Values.run_values (F := Ideal) m ρ)
  · refine (θ_run _ _ _).mono (fun r h c => ?_) (RefFrames.run_results (F := Ideal) m' ρ')
    obtain ⟨w, hk, hr⟩ := hd c
    obtain ⟨h1, h2, h3, h4⟩ := h.1 c
    exact ⟨h1.trans (rows_agree hk hr), h2.trans (losses_agree hk hr), h3.trans (codes_agree hk hr), h4⟩

end Cert.Proof.Algebraic

end
-- ==== Proof.lean ====
/-
  The claims: the kernel and the reference run and leave their arguments and semaphores as they were, the kernel at the
  reals is the kernel's own text, and at the reals the kernel and the reference leave the same results.
-/
module

public import proofs.«01_k».proof.Defs
public import proofs.«01_k».proof.Proof.Gen.Kernel
public import proofs.«01_k».proof.Proof.Gen.KernelIdeal
public import proofs.«01_k».proof.Proof.Gen.KernelIdeal.Launch
public import proofs.«01_k».proof.Proof.Gen.KernelIdeal.Points
public import proofs.«01_k».proof.Proof.Gen.ReferenceIdeal
public import proofs.«01_k».proof.Proof.Frames
public import proofs.«01_k».proof.Proof.RefFrames
public import proofs.«01_k».proof.Proof.Finite
public import proofs.«01_k».proof.Proof.Algebraic
public import Idealize.ShloMosaic.Adequacy
public import Idealize.ShloMosaic.Init

@[expose] public section

noncomputable section

namespace Cert.Proof

open Idealize.ShloMosaic Idealize.SL.Sem Cert.Kernel

/-- The claims, each from its module. -/
theorem claim : Cert.Claim := ⟨Cert.Kernel.Gen.facts, Cert.KernelIdeal.Gen.facts, Cert.ReferenceIdeal.Gen.facts, Finite.facts,
  Frames.frame_kernel, Frames.frame_ideal, Algebraic.frame_ideal_finite, RefFrames.frame_reference, Algebraic.frame_reference_finite,
  trivial, Algebraic.results_agree⟩

end Cert.Proof

end
